-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S4x4096x512 : Shape := ⟨3, ![4, 4096, 512]⟩
abbrev S4x256x512 : Shape := ⟨3, ![4, 256, 512]⟩
abbrev S1x8x15x31 : Shape := ⟨4, ![1, 8, 15, 31]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x256x512 : S_.BroadcastsInDim S4x256x512 (![] : Fin 0 → Fin S4x256x512.rank)
  reducesTo_S4x256x512_S_d0_1_2 : S4x256x512.ReducesTo [0, 1, 2] S_
  bcast_S_S1x8x15x31 : S_.BroadcastsInDim S1x8x15x31 (![] : Fin 0 → Fin S1x8x15x31.rank)
  reducesTo_S1x8x15x31_S_d0_1_2_3 : S1x8x15x31.ReducesTo [0, 1, 2, 3] S_

variable [Facts]

def fn_part1 {F : FTy → Type} [FloatOps F] (main_v16 : IVec S_ 1) (main_v17 : FVec F S1x8x15x31 .f32) : IVec S_ 1 :=
  let main_cst_4 : FVec F S_ .f32 := constant S_ .f32 0x7F800000#32
  let main_v18 : FVec F S1x8x15x31 .f32 := broadcastInDim S1x8x15x31 ![] bcast_S_S1x8x15x31 main_cst_4
  let main_v19 : IVec S1x8x15x31 1 := cmpf .olt main_v17 main_v18
  let main_c_5 : IVec S_ 1 := constantI S_ 1 1#1
  let main_v20 : IVec S_ 1 := (fun x v => Host.reduce IntOp.andi x v reducesTo_S1x8x15x31_S_d0_1_2_3 h_S_) main_v19 main_c_5
  let main_v21 : IVec S_ 1 := andi main_v16 main_v20
  main_v21

def fn {F : FTy → Type} [FloatOps F] (main_arg0 : FVec F S4x4096x512 .bf16) (main_arg1 : FVec F S4x4096x512 .bf16) (main_arg2 : FVec F S4x4096x512 .bf16) (main_arg3 : FVec F S4x256x512 .bf16) (main_arg4 : FVec F S4x256x512 .bf16) (main_arg5 : FVec F S1x8x15x31 .f32) : IVec S_ 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_c : IVec S_ 1 := constantI S_ 1 1#1
  let main_v4 : IVec S_ 1 := (fun x v => Host.reduce IntOp.andi x v reducesTo_S4x4096x512_S_d0_1_2 h_S_) main_v3 main_c
  let main_v5 : FVec F S4x4096x512 .f32 := (extf .f32 · bitsLt_bf16_f32) main_arg1
  let main_v6 : FVec F S4x4096x512 .f32 := Host.absf main_v5
  let main_cst_0 : FVec F S_ .f32 := constant S_ .f32 0x7F800000#32
  let main_v7 : FVec F S4x4096x512 .f32 := broadcastInDim S4x4096x512 ![] bcast_S_S4x4096x512 main_cst_0
  let main_v8 : IVec S4x4096x512 1 := cmpf .olt main_v6 main_v7
  let main_c_1 : IVec S_ 1 := constantI S_ 1 1#1
  let main_v9 : IVec S_ 1 := (fun x v => Host.reduce IntOp.andi x v reducesTo_S4x4096x512_S_d0_1_2 h_S_) main_v8 main_c_1
  let main_v10 : IVec S_ 1 := andi main_v4 main_v9
  let main_v11 : FVec F S4x256x512 .f32 := (extf .f32 · bitsLt_bf16_f32) main_arg3
  let main_v12 : FVec F S4x256x512 .f32 := Host.absf main_v11
  let main_cst_2 : FVec F S_ .f32 := constant S_ .f32 0x7F800000#32
  let main_v13 : FVec F S4x256x512 .f32 := broadcastInDim S4x256x512 ![] bcast_S_S4x256x512 main_cst_2
  let main_v14 : IVec S4x256x512 1 := cmpf .olt main_v12 main_v13
  let main_c_3 : IVec S_ 1 := constantI S_ 1 1#1
  let main_v15 : IVec S_ 1 := (fun x v => Host.reduce IntOp.andi x v reducesTo_S4x256x512_S_d0_1_2 h_S_) main_v14 main_c_3
  let main_v16 : IVec S_ 1 := andi main_v10 main_v15
  let main_v17 : FVec F S1x8x15x31 .f32 := Host.absf main_arg5
  fn_part1 (F := F) main_v16 main_v17
-- ==== Kernel.lean ====
abbrev S4x4096x512 : Shape := ⟨3, ![4, 4096, 512]⟩
abbrev S4x256x512 : Shape := ⟨3, ![4, 256, 512]⟩
abbrev S1x8x15x31 : Shape := ⟨4, ![1, 8, 15, 31]⟩
abbrev S3x4x12 : Shape := ⟨3, ![3, 4, 12]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S31 : Shape := ⟨1, ![31]⟩
abbrev S31x1x1 : Shape := ⟨3, ![31, 1, 1]⟩
abbrev S1x64x64 : Shape := ⟨3, ![1, 64, 64]⟩
abbrev S31x64x64 : Shape := ⟨3, ![31, 64, 64]⟩
abbrev S64x64x8x15 : Shape := ⟨4, ![64, 64, 8, 15]⟩
abbrev S8x64x15x64 : Shape := ⟨4, ![8, 64, 15, 64]⟩
abbrev S1x64x1x64 : Shape := ⟨4, ![1, 64, 1, 64]⟩
abbrev S8x64x960 : Shape := ⟨3, ![8, 64, 960]⟩
abbrev S8x64x1600 : Shape := ⟨3, ![8, 64, 1600]⟩
abbrev S8x64x1536 : Shape := ⟨3, ![8, 64, 1536]⟩
abbrev S8x1x64x1536 : Shape := ⟨4, ![8, 1, 64, 1536]⟩
abbrev S8x2x64x1536 : Shape := ⟨4, ![8, 2, 64, 1536]⟩
abbrev S3x4x1x12x1 : Shape := ⟨5, ![3, 4, 1, 12, 1]⟩
abbrev S3x4x1x12x64 : Shape := ⟨5, ![3, 4, 1, 12, 64]⟩
abbrev S3x4x1x768 : Shape := ⟨4, ![3, 4, 1, 768]⟩
abbrev S1x4096x128 : Shape := ⟨3, ![1, 4096, 128]⟩
abbrev S1x256x128 : Shape := ⟨3, ![1, 256, 128]⟩
abbrev S2x2x64x1536 : Shape := ⟨4, ![2, 2, 64, 1536]⟩
abbrev S1x3x2x256x768 : Shape := ⟨5, ![1, 3, 2, 256, 768]⟩
abbrev S2x2x256x768 : Shape := ⟨4, ![2, 2, 256, 768]⟩
abbrev S2x2x256x256 : Shape := ⟨4, ![2, 2, 256, 256]⟩
abbrev S256x128 : Shape := ⟨2, ![256, 128]⟩
abbrev S768x128 : Shape := ⟨2, ![768, 128]⟩
abbrev S1x1x64x768 : Shape := ⟨4, ![1, 1, 64, 768]⟩
abbrev S64x768 : Shape := ⟨2, ![64, 768]⟩
abbrev S1x1x1x768 : Shape := ⟨4, ![1, 1, 1, 768]⟩
abbrev S1x768 : Shape := ⟨2, ![1, 768]⟩
abbrev S1x1x1x64x768 : Shape := ⟨5, ![1, 1, 1, 64, 768]⟩
abbrev S1x768x128 : Shape := ⟨3, ![1, 768, 128]⟩
abbrev S256x768 : Shape := ⟨2, ![256, 768]⟩
abbrev S1x1x1x256x768 : Shape := ⟨5, ![1, 1, 1, 256, 768]⟩
abbrev S1x1x256x768 : Shape := ⟨4, ![1, 1, 256, 768]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩

abbrev nBuf : Space → Nat
  | .hbm => 89
  | .vmem => 20
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x256x512, .bf16⟩
  | .hbm, ⟨4, _⟩ => ⟨S4x256x512, .bf16⟩
  | .hbm, ⟨5, _⟩ => ⟨S1x8x15x31, .f32⟩
  | .hbm, ⟨6, _⟩ => ⟨S3x4x12, .i1⟩
  | .hbm, ⟨7, _⟩ => ⟨S8x15x31, .f32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S1x64, .i32⟩
  | .hbm, ⟨21, _⟩ => ⟨S64x1, .i32⟩
  | .hbm, ⟨22, _⟩ => ⟨S64x64, .i32⟩
  | .hbm, ⟨23, _⟩ => ⟨S64x64, .i32⟩
  | .hbm, ⟨24, _⟩ => ⟨S64x64, .i1⟩
  | .hbm, ⟨25, _⟩ => ⟨S1x64, .i32⟩
  | .hbm, ⟨26, _⟩ => ⟨S64x1, .i32⟩
  | .hbm, ⟨27, _⟩ => ⟨S_, .i32⟩
  | .hbm, ⟨28, _⟩ => ⟨S64x1, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S64x64, .i1⟩
  | .hbm, ⟨34, _⟩ => ⟨S1x64, .i32⟩
  | .hbm, ⟨35, _⟩ => ⟨S64x1, .i32⟩
  | .hbm, ⟨36, _⟩ => ⟨S64x64, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S64x64, .i32⟩
  | .hbm, ⟨49, _⟩ => ⟨S64x64, .i32⟩
  | .hbm, ⟨50, _⟩ => ⟨S_, .i32⟩
  | .hbm, ⟨51, _⟩ => ⟨S64x64, .i32⟩
  | .hbm, ⟨52, _⟩ => ⟨S64x64, .i32⟩
  | .hbm, ⟨53, _⟩ => ⟨S31, .i32⟩
  | .hbm, ⟨54, _⟩ => ⟨S31x1x1, .i32⟩
  | .hbm, ⟨55, _⟩ => ⟨S1x64x64, .i32⟩
  | .hbm, ⟨56, _⟩ => ⟨S31x64x64, .i32⟩
  | .hbm, ⟨57, _⟩ => ⟨S31x64x64, .i32⟩
  | .hbm, ⟨58, _⟩ => ⟨S31x64x64, .i1⟩
  | .hbm, ⟨59, _⟩ => ⟨S1x64x64, .i1⟩
  | .hbm, ⟨60, _⟩ => ⟨S31x64x64, .i1⟩
  | .hbm, ⟨61, _⟩ => ⟨S31x64x64, .i1⟩
  | .hbm, ⟨62, _⟩ => ⟨S31x64x64, .f32⟩
  | .hbm, ⟨63, _⟩ => ⟨S64x64x8x15, .f32⟩
  | .hbm, ⟨64, _⟩ => ⟨S8x64x15x64, .f32⟩
  | .hbm, ⟨65, _⟩ => ⟨S1x64x1x64, .i1⟩
  | .hbm, ⟨66, _⟩ => ⟨S_, .f32⟩
  | .hbm, ⟨67, _⟩ => ⟨S_, .f32⟩
  | .hbm, ⟨68, _⟩ => ⟨S8x64x15x64, .i1⟩
  | .hbm, ⟨69, _⟩ => ⟨S8x64x15x64, .f32⟩
  | .hbm, ⟨70, _⟩ => ⟨S8x64x15x64, .f32⟩
  | .hbm, ⟨71, _⟩ => ⟨S8x64x960, .f32⟩
  | .hbm, ⟨72, _⟩ => ⟨S_, .f32⟩
  | .hbm, ⟨73, _⟩ => ⟨S_, .f32⟩
  | .hbm, ⟨74, _⟩ => ⟨S8x64x1600, .f32⟩
  | .hbm, ⟨75, _⟩ => ⟨S8x64x1536, .f32⟩
  | .hbm, ⟨76, _⟩ => ⟨S8x64x1536, .f32⟩
  | .hbm, ⟨77, _⟩ => ⟨S8x1x64x1536, .f32⟩
  | .hbm, ⟨78, _⟩ => ⟨S8x1x64x1536, .f32⟩
  | .hbm, ⟨79, _⟩ => ⟨S8x2x64x1536, .f32⟩
  | .hbm, ⟨80, _⟩ => ⟨S3x4x1x12x1, .i1⟩
  | .hbm, ⟨81, _⟩ => ⟨S_, .f32⟩
  | .hbm, ⟨82, _⟩ => ⟨S_, .f32⟩
  | .hbm, ⟨83, _⟩ => ⟨S3x4x1x12x1, .f32⟩
  | .hbm, ⟨84, _⟩ => ⟨S3x4x1x12x1, .f32⟩
  | .hbm, ⟨85, _⟩ => ⟨S3x4x1x12x1, .f32⟩
  | .hbm, ⟨86, _⟩ => ⟨S3x4x1x12x64, .f32⟩
  | .hbm, ⟨87, _⟩ => ⟨S3x4x1x768, .f32⟩
  | .hbm, ⟨88, _⟩ => ⟨S4x4096x512, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S2x2x64x1536, .f32⟩
  | .local _ .vmem, ⟨11, _⟩ => ⟨S2x2x64x1536, .f32⟩
  | .local _ .vmem, ⟨12, _⟩ => ⟨S3x4x1x768, .f32⟩
  | .local _ .vmem, ⟨13, _⟩ => ⟨S1x4096x128, .bf16⟩
  | .local _ .vmem, ⟨14, _⟩ => ⟨S1x4096x128, .bf16⟩
  | .local _ .vmem, ⟨15, _⟩ => ⟨S1x3x2x256x768, .f32⟩
  | .local _ .vmem, ⟨16, _⟩ => ⟨S2x2x256x768, .f32⟩
  | .local _ .vmem, ⟨17, _⟩ => ⟨S2x2x256x256, .f32⟩
  | .local _ .vmem, ⟨18, _⟩ => ⟨S2x2x256x768, .bf16⟩
  | .local _ .vmem, ⟨19, _⟩ => ⟨S2x2x256x256, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_c_7 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_call3_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_cst_10 : Ref sig .tc := ⟨.hbm, 82, rfl⟩
abbrev main_call4_v0 : Ref sig .tc := ⟨.hbm, 83, rfl⟩
abbrev main_call4_v1 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_mult1 : BitVec 32 :=
  let c0_i32_7 : BitVec 32 := 0#32
  c0_i32_7
def k0_mult2 : BitVec 32 :=
  let c52_i32 : BitVec 32 := 52#32
  let c0_i32_10 : BitVec 32 := 0#32
  let c_m4_i32 : BitVec 32 := 4294967292#32
  let v20 : BitVec 32 := Scalar.maxsi c0_i32_10 c_m4_i32
  let v21 : BitVec 32 := Scalar.minsi c52_i32 v20
  let c64_i32_11 : BitVec 32 := 64#32
  let v22 : BitVec 32 := Scalar.muli v21 c64_i32_11
  v22
def k0_off1 (c_m4_i32 : BitVec 32) : Fin 3 → Nat :=
  let c0_12 : Index := 0#32
  let c52_i32 : BitVec 32 := 52#32
  let c0_i32_10 : BitVec 32 := 0#32
  let v20 : BitVec 32 := Scalar.maxsi c0_i32_10 c_m4_i32
  let v21 : BitVec 32 := Scalar.minsi c52_i32 v20
  let c64_i32_11 : BitVec 32 := 64#32
  let v22 : BitVec 32 := Scalar.muli v21 c64_i32_11
  let v23 : BitVec 32 := v22
  let v24 : Index := Scalar.indexCast v23
  let c0_13 : Index := 0#32
  ![0, v24.toNat, 0]
def k0_off1_at (r : Fin 4) : BitVec 32 :=
  if r.val < 2 then
    if r.val < 1 then
      4294967292#32
    else
      0#32
  else
    if r.val < 3 then
      52#32
    else
      56#32
def k0_off2 (v_true : BitVec 1) : Fin 5 → Nat :=
  let c0_16 : Index := 0#32
  let c0_i32_6 : BitVec 32 := 0#32
  let v_false : BitVec 1 := 0#1
  let c2_i32 : BitVec 32 := 2#32
  let c1_i32 : BitVec 32 := 1#32
  let v12 : BitVec 32 := Scalar.select v_false c2_i32 c1_i32
  let v13 : BitVec 32 := Scalar.select v_true c0_i32_6 v12
  let v30 : Index := Scalar.indexCast v13
  let c0_17 : Index := 0#32
  let c0_18 : Index := 0#32
  let c0_19 : Index := 0#32
  ![0, v30.toNat, 0, 0, 0]
def k0_off3 (v_true : BitVec 1) : Fin 5 → Nat :=
  let c0_32 : Index := 0#32
  let c0_i32_6 : BitVec 32 := 0#32
  let v_false : BitVec 1 := 0#1
  let c2_i32 : BitVec 32 := 2#32
  let c1_i32 : BitVec 32 := 1#32
  let v12 : BitVec 32 := Scalar.select v_false c2_i32 c1_i32
  let v13 : BitVec 32 := Scalar.select v_true c0_i32_6 v12
  let v45 : Index := Scalar.indexCast v13
  let c1 : Index := 1#32
  let c0_33 : Index := 0#32
  let c0_34 : Index := 0#32
  ![0, v45.toNat, 1, 0, 0]
def k0_mult3 : BitVec 32 :=
  let c256_i32 : BitVec 32 := 256#32
  c256_i32
def k0_mult4 : BitVec 32 :=
  let c52_i32_90 : BitVec 32 := 52#32
  let c0_i32_89 : BitVec 32 := 0#32
  let c0_i32_88 : BitVec 32 := 0#32
  let v110 : BitVec 32 := Scalar.maxsi c0_i32_89 c0_i32_88
  let v111 : BitVec 32 := Scalar.minsi c52_i32_90 v110
  let c64_i32_91 : BitVec 32 := 64#32
  let v112 : BitVec 32 := Scalar.muli v111 c64_i32_91
  v112
@[reducible] def k0_t1_loop : Scf.Loop 32 :=
  let c1_i32_125 : BitVec 32 := 1#32
  let c7_i32 : BitVec 32 := 7#32
  let v146 : BitVec 32 := Scalar.addi c1_i32_125 c7_i32
  let c1_i32_126 : BitVec 32 := 1#32
  ⟨c1_i32_125, v146, c1_i32_126⟩
def k0_mult5 (k0_t1 : Fin k0_t1_loop.trips) : BitVec 32 :=
  let c52_i32_243 : BitVec 32 := 52#32
  let c0_i32_242 : BitVec 32 := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c2_i32_240 : BitVec 32 := 2#32
  let v302 : BitVec 32 := Scalar.subi v301 c2_i32_240
  let c4_i32 : BitVec 32 := 4#32
  let v303 : BitVec 32 := Scalar.muli v302 c4_i32
  let c4_i32_241 : BitVec 32 := 4#32
  let v304 : BitVec 32 := Scalar.subi v303 c4_i32_241
  let v305 : BitVec 32 := Scalar.maxsi c0_i32_242 v304
  let v306 : BitVec 32 := Scalar.minsi c52_i32_243 v305
  let c64_i32_244 : BitVec 32 := 64#32
  let v307 : BitVec 32 := Scalar.muli v306 c64_i32_244
  v307
def k0_off4 (k0_t1 : Fin k0_t1_loop.trips) (c2_i32_240 : BitVec 32) : Fin 3 → Nat :=
  let c0_245 : Index := 0#32
  let c52_i32_243 : BitVec 32 := 52#32
  let c0_i32_242 : BitVec 32 := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let v302 : BitVec 32 := Scalar.subi v301 c2_i32_240
  let c4_i32 : BitVec 32 := 4#32
  let v303 : BitVec 32 := Scalar.muli v302 c4_i32
  let c4_i32_241 : BitVec 32 := 4#32
  let v304 : BitVec 32 := Scalar.subi v303 c4_i32_241
  let v305 : BitVec 32 := Scalar.maxsi c0_i32_242 v304
  let v306 : BitVec 32 := Scalar.minsi c52_i32_243 v305
  let c64_i32_244 : BitVec 32 := 64#32
  let v307 : BitVec 32 := Scalar.muli v306 c64_i32_244
  let v308 : BitVec 32 := v307
  let v309 : Index := Scalar.indexCast v308
  let c0_246 : Index := 0#32
  ![0, v309.toNat, 0]
def k0_mult6 (k0_t1 : Fin k0_t1_loop.trips) : BitVec 32 :=
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c2_i32_240 : BitVec 32 := 2#32
  let v302 : BitVec 32 := Scalar.subi v301 c2_i32_240
  let c256_i32_277 : BitVec 32 := 256#32
  let v354 : BitVec 32 := Scalar.muli v302 c256_i32_277
  v354
def k0_off5 (k0_t1 : Fin k0_t1_loop.trips) (c2_i32_240 : BitVec 32) : Fin 3 → Nat :=
  let c0_278 : Index := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let v302 : BitVec 32 := Scalar.subi v301 c2_i32_240
  let c256_i32_277 : BitVec 32 := 256#32
  let v354 : BitVec 32 := Scalar.muli v302 c256_i32_277
  let v355 : BitVec 32 := v354
  let v356 : Index := Scalar.indexCast v355
  let c0_279 : Index := 0#32
  ![0, v356.toNat, 0]
def k0_mult7 (k0_t1 : Fin k0_t1_loop.trips) : BitVec 32 :=
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c256_i32_320 : BitVec 32 := 256#32
  let v410 : BitVec 32 := Scalar.muli v301 c256_i32_320
  v410
def k0_off6 (k0_t1 : Fin k0_t1_loop.trips) : Fin 3 → Nat :=
  let c0_321 : Index := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c256_i32_320 : BitVec 32 := 256#32
  let v410 : BitVec 32 := Scalar.muli v301 c256_i32_320
  let v411 : BitVec 32 := v410
  let v412 : Index := Scalar.indexCast v411
  let c0_322 : Index := 0#32
  ![0, v412.toNat, 0]
def k0_mult8 (k0_t1 : Fin k0_t1_loop.trips) : BitVec 32 :=
  let c52_i32_327 : BitVec 32 := 52#32
  let c0_i32_326 : BitVec 32 := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c4_i32_324 : BitVec 32 := 4#32
  let v417 : BitVec 32 := Scalar.muli v301 c4_i32_324
  let c4_i32_325 : BitVec 32 := 4#32
  let v418 : BitVec 32 := Scalar.subi v417 c4_i32_325
  let v419 : BitVec 32 := Scalar.maxsi c0_i32_326 v418
  let v420 : BitVec 32 := Scalar.minsi c52_i32_327 v419
  let c64_i32_328 : BitVec 32 := 64#32
  let v421 : BitVec 32 := Scalar.muli v420 c64_i32_328
  v421
def k0_off7 (k0_t1 : Fin k0_t1_loop.trips) : Fin 3 → Nat :=
  let c0_329 : Index := 0#32
  let c52_i32_327 : BitVec 32 := 52#32
  let c0_i32_326 : BitVec 32 := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c4_i32_324 : BitVec 32 := 4#32
  let v417 : BitVec 32 := Scalar.muli v301 c4_i32_324
  let c4_i32_325 : BitVec 32 := 4#32
  let v418 : BitVec 32 := Scalar.subi v417 c4_i32_325
  let v419 : BitVec 32 := Scalar.maxsi c0_i32_326 v418
  let v420 : BitVec 32 := Scalar.minsi c52_i32_327 v419
  let c64_i32_328 : BitVec 32 := 64#32
  let v421 : BitVec 32 := Scalar.muli v420 c64_i32_328
  let v422 : BitVec 32 := v421
  let v423 : Index := Scalar.indexCast v422
  let c0_330 : Index := 0#32
  ![0, v423.toNat, 0]
def k0_off8 (k0_t1 : Fin k0_t1_loop.trips) : Fin 5 → Nat :=
  let c0_333 : Index := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c0_i32_316 : BitVec 32 := 0#32
  let v406 : BitVec 1 := Scalar.cmpi .eq v301 c0_i32_316
  let c0_i32_319 : BitVec 32 := 0#32
  let c15_i32 : BitVec 32 := 15#32
  let v407 : BitVec 1 := Scalar.cmpi .eq v301 c15_i32
  let c2_i32_317 : BitVec 32 := 2#32
  let c1_i32_318 : BitVec 32 := 1#32
  let v408 : BitVec 32 := Scalar.select v407 c2_i32_317 c1_i32_318
  let v409 : BitVec 32 := Scalar.select v406 c0_i32_319 v408
  let v429 : Index := Scalar.indexCast v409
  let c0_334 : Index := 0#32
  let c0_335 : Index := 0#32
  let c0_336 : Index := 0#32
  ![0, v429.toNat, 0, 0, 0]
def k0_off9 (k0_t1 : Fin k0_t1_loop.trips) : Fin 5 → Nat :=
  let c0_349 : Index := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c0_i32_316 : BitVec 32 := 0#32
  let v406 : BitVec 1 := Scalar.cmpi .eq v301 c0_i32_316
  let c0_i32_319 : BitVec 32 := 0#32
  let c15_i32 : BitVec 32 := 15#32
  let v407 : BitVec 1 := Scalar.cmpi .eq v301 c15_i32
  let c2_i32_317 : BitVec 32 := 2#32
  let c1_i32_318 : BitVec 32 := 1#32
  let v408 : BitVec 32 := Scalar.select v407 c2_i32_317 c1_i32_318
  let v409 : BitVec 32 := Scalar.select v406 c0_i32_319 v408
  let v444 : Index := Scalar.indexCast v409
  let c1_350 : Index := 1#32
  let c0_351 : Index := 0#32
  let c0_352 : Index := 0#32
  ![0, v444.toNat, 1, 0, 0]
def k0_mult9 (k0_t1 : Fin k0_t1_loop.trips) : BitVec 32 :=
  let c52_i32_366 : BitVec 32 := 52#32
  let c0_i32_365 : BitVec 32 := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c1_i32_362 : BitVec 32 := 1#32
  let v455 : BitVec 32 := Scalar.subi v301 c1_i32_362
  let c4_i32_363 : BitVec 32 := 4#32
  let v456 : BitVec 32 := Scalar.muli v455 c4_i32_363
  let c4_i32_364 : BitVec 32 := 4#32
  let v457 : BitVec 32 := Scalar.subi v456 c4_i32_364
  let v458 : BitVec 32 := Scalar.maxsi c0_i32_365 v457
  let v459 : BitVec 32 := Scalar.minsi c52_i32_366 v458
  let c64_i32_367 : BitVec 32 := 64#32
  let v460 : BitVec 32 := Scalar.muli v459 c64_i32_367
  v460
def k0_mult10 (k0_t1 : Fin k0_t1_loop.trips) : BitVec 32 :=
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c1_i32_362 : BitVec 32 := 1#32
  let v455 : BitVec 32 := Scalar.subi v301 c1_i32_362
  let c256_i32_400 : BitVec 32 := 256#32
  let v507 : BitVec 32 := Scalar.muli v455 c256_i32_400
  v507
def k0_mult11 (k0_t1 : Fin k0_t1_loop.trips) : BitVec 32 :=
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c1_i32_439 : BitVec 32 := 1#32
  let v559 : BitVec 32 := Scalar.addi v301 c1_i32_439
  let c256_i32_445 : BitVec 32 := 256#32
  let v564 : BitVec 32 := Scalar.muli v559 c256_i32_445
  v564
def k0_off10 (k0_t1 : Fin k0_t1_loop.trips) : Fin 3 → Nat :=
  let c0_446 : Index := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c1_i32_439 : BitVec 32 := 1#32
  let v559 : BitVec 32 := Scalar.addi v301 c1_i32_439
  let c256_i32_445 : BitVec 32 := 256#32
  let v564 : BitVec 32 := Scalar.muli v559 c256_i32_445
  let v565 : BitVec 32 := v564
  let v566 : Index := Scalar.indexCast v565
  let c0_447 : Index := 0#32
  ![0, v566.toNat, 0]
def k0_mult12 (k0_t1 : Fin k0_t1_loop.trips) : BitVec 32 :=
  let c52_i32_452 : BitVec 32 := 52#32
  let c0_i32_451 : BitVec 32 := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c1_i32_439 : BitVec 32 := 1#32
  let v559 : BitVec 32 := Scalar.addi v301 c1_i32_439
  let c4_i32_449 : BitVec 32 := 4#32
  let v571 : BitVec 32 := Scalar.muli v559 c4_i32_449
  let c4_i32_450 : BitVec 32 := 4#32
  let v572 : BitVec 32 := Scalar.subi v571 c4_i32_450
  let v573 : BitVec 32 := Scalar.maxsi c0_i32_451 v572
  let v574 : BitVec 32 := Scalar.minsi c52_i32_452 v573
  let c64_i32_453 : BitVec 32 := 64#32
  let v575 : BitVec 32 := Scalar.muli v574 c64_i32_453
  v575
def k0_off11 (k0_t1 : Fin k0_t1_loop.trips) : Fin 3 → Nat :=
  let c0_454 : Index := 0#32
  let c52_i32_452 : BitVec 32 := 52#32
  let c0_i32_451 : BitVec 32 := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c1_i32_439 : BitVec 32 := 1#32
  let v559 : BitVec 32 := Scalar.addi v301 c1_i32_439
  let c4_i32_449 : BitVec 32 := 4#32
  let v571 : BitVec 32 := Scalar.muli v559 c4_i32_449
  let c4_i32_450 : BitVec 32 := 4#32
  let v572 : BitVec 32 := Scalar.subi v571 c4_i32_450
  let v573 : BitVec 32 := Scalar.maxsi c0_i32_451 v572
  let v574 : BitVec 32 := Scalar.minsi c52_i32_452 v573
  let c64_i32_453 : BitVec 32 := 64#32
  let v575 : BitVec 32 := Scalar.muli v574 c64_i32_453
  let v576 : BitVec 32 := v575
  let v577 : Index := Scalar.indexCast v576
  let c0_455 : Index := 0#32
  ![0, v577.toNat, 0]
def k0_off12 (k0_t1 : Fin k0_t1_loop.trips) : Fin 5 → Nat :=
  let c0_458 : Index := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c1_i32_439 : BitVec 32 := 1#32
  let v559 : BitVec 32 := Scalar.addi v301 c1_i32_439
  let c0_i32_440 : BitVec 32 := 0#32
  let v560 : BitVec 1 := Scalar.cmpi .eq v559 c0_i32_440
  let c0_i32_444 : BitVec 32 := 0#32
  let c15_i32_441 : BitVec 32 := 15#32
  let v561 : BitVec 1 := Scalar.cmpi .eq v559 c15_i32_441
  let c2_i32_442 : BitVec 32 := 2#32
  let c1_i32_443 : BitVec 32 := 1#32
  let v562 : BitVec 32 := Scalar.select v561 c2_i32_442 c1_i32_443
  let v563 : BitVec 32 := Scalar.select v560 c0_i32_444 v562
  let v583 : Index := Scalar.indexCast v563
  let c0_459 : Index := 0#32
  let c0_460 : Index := 0#32
  let c0_461 : Index := 0#32
  ![0, v583.toNat, 0, 0, 0]
def k0_off13 (k0_t1 : Fin k0_t1_loop.trips) : Fin 5 → Nat :=
  let c0_474 : Index := 0#32
  let c2_i32_239 : BitVec 32 := 2#32
  let c1_i32_125 : BitVec 32 := 1#32
  let c1_i32_126 : BitVec 32 := 1#32
  let arg15 : BitVec 32 := Scf.iv c1_i32_125 c1_i32_126 k0_t1
  let v301 : BitVec 32 := Scalar.muli c2_i32_239 arg15
  let c1_i32_439 : BitVec 32 := 1#32
  let v559 : BitVec 32 := Scalar.addi v301 c1_i32_439
  let c0_i32_440 : BitVec 32 := 0#32
  let v560 : BitVec 1 := Scalar.cmpi .eq v559 c0_i32_440
  let c0_i32_444 : BitVec 32 := 0#32
  let c15_i32_441 : BitVec 32 := 15#32
  let v561 : BitVec 1 := Scalar.cmpi .eq v559 c15_i32_441
  let c2_i32_442 : BitVec 32 := 2#32
  let c1_i32_443 : BitVec 32 := 1#32
  let v562 : BitVec 32 := Scalar.select v561 c2_i32_442 c1_i32_443
  let v563 : BitVec 32 := Scalar.select v560 c0_i32_444 v562
  let v598 : Index := Scalar.indexCast v563
  let c1_475 : Index := 1#32
  let c0_476 : Index := 0#32
  let c0_477 : Index := 0#32
  ![0, v598.toNat, 1, 0, 0]
def k0_mult13 : BitVec 32 :=
  let c52_i32_130 : BitVec 32 := 52#32
  let c0_i32_129 : BitVec 32 := 0#32
  let c52_i32_128 : BitVec 32 := 52#32
  let v147 : BitVec 32 := Scalar.maxsi c0_i32_129 c52_i32_128
  let v148 : BitVec 32 := Scalar.minsi c52_i32_130 v147
  let c64_i32_131 : BitVec 32 := 64#32
  let v149 : BitVec 32 := Scalar.muli v148 c64_i32_131
  v149
def k0_mult14 : BitVec 32 :=
  let c3584_i32 : BitVec 32 := 3584#32
  c3584_i32
def k0_mult15 : BitVec 32 :=
  let c52_i32_203 : BitVec 32 := 52#32
  let c0_i32_202 : BitVec 32 := 0#32
  let c56_i32 : BitVec 32 := 56#32
  let v247 : BitVec 32 := Scalar.maxsi c0_i32_202 c56_i32
  let v248 : BitVec 32 := Scalar.minsi c52_i32_203 v247
  let c64_i32_204 : BitVec 32 := 64#32
  let v249 : BitVec 32 := Scalar.muli v248 c64_i32_204
  v249
def k0_mult16 : BitVec 32 :=
  let c3840_i32 : BitVec 32 := 3840#32
  c3840_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x2x64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x4x1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x4096x512 : Shape := ⟨3, ![4, 4096, 512]⟩
abbrev S4x256x512 : Shape := ⟨3, ![4, 256, 512]⟩
abbrev S1x8x15x31 : Shape := ⟨4, ![1, 8, 15, 31]⟩
abbrev S4x4096x8x64 : Shape := ⟨4, ![4, 4096, 8, 64]⟩
abbrev S4x8x4096x64 : Shape := ⟨4, ![4, 8, 4096, 64]⟩
abbrev S4x256x8x64 : Shape := ⟨4, ![4, 256, 8, 64]⟩
abbrev S4x8x256x64 : Shape := ⟨4, ![4, 8, 256, 64]⟩
abbrev S8x15x31 : Shape := ⟨3, ![8, 15, 31]⟩
abbrev S4x8x64x64x64 : Shape := ⟨5, ![4, 8, 64, 64, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S4x8x64x8x64x64 : Shape := ⟨6, ![4, 8, 64, 8, 64, 64]⟩
abbrev S1x64 : Shape := ⟨2, ![1, 64]⟩
abbrev S64x64 : Shape := ⟨2, ![64, 64]⟩
abbrev S64x1x8x1 : Shape := ⟨4, ![64, 1, 8, 1]⟩
abbrev S1x64x1x64 : Shape := ⟨4, ![1, 64, 1, 64]⟩
abbrev S64x64x8x64 : Shape := ⟨4, ![64, 64, 8, 64]⟩
abbrev S64x64x8x64x1 : Shape := ⟨5, ![64, 64, 8, 64, 1]⟩
abbrev S64x64x8x64x2 : Shape := ⟨5, ![64, 64, 8, 64, 2]⟩
abbrev S8x64x64x8x64 : Shape := ⟨5, ![8, 64, 64, 8, 64]⟩
abbrev S4x8x64x64x8x64 : Shape := ⟨6, ![4, 8, 64, 64, 8, 64]⟩
abbrev S1x8x64x64x8x64 : Shape := ⟨6, ![1, 8, 64, 64, 8, 64]⟩
abbrev S64x1x64 : Shape := ⟨3, ![64, 1, 64]⟩
abbrev S4x8x64x64x256 : Shape := ⟨5, ![4, 8, 64, 64, 256]⟩
abbrev S4x8x64x64x512 : Shape := ⟨5, ![4, 8, 64, 64, 512]⟩
abbrev S4x8x64x64x768 : Shape := ⟨5, ![4, 8, 64, 64, 768]⟩
abbrev S4x8x64x64 : Shape := ⟨4, ![4, 8, 64, 64]⟩
abbrev S4x8x64x64x1 : Shape := ⟨5, ![4, 8, 64, 64, 1]⟩

abbrev nBuf : Space → Nat
  | .hbm => 180
  | .vmem => 0
  | .smem => 0
  | _ => 0

abbrev hbmTy0_0 (i : Nat) : BufTy := match i % 128 with
  | 0 => ⟨S4x4096x512, .bf16⟩
  | 1 => ⟨S4x4096x512, .bf16⟩
  | 2 => ⟨S4x4096x512, .bf16⟩
  | 3 => ⟨S4x256x512, .bf16⟩
  | 4 => ⟨S4x256x512, .bf16⟩
  | 5 => ⟨S1x8x15x31, .f32⟩
  | 6 => ⟨S4x4096x512, .f32⟩
  | 7 => ⟨S4x4096x512, .f32⟩
  | 8 => ⟨S4x4096x512, .f32⟩
  | 9 => ⟨S4x256x512, .f32⟩
  | 10 => ⟨S4x256x512, .f32⟩
  | 11 => ⟨S4x4096x8x64, .f32⟩
  | 12 => ⟨S4x8x4096x64, .f32⟩
  | 13 => ⟨S4x4096x8x64, .f32⟩
  | 14 => ⟨S4x8x4096x64, .f32⟩
  | 15 => ⟨S4x4096x8x64, .f32⟩
  | 16 => ⟨S4x8x4096x64, .f32⟩
  | 17 => ⟨S4x256x8x64, .f32⟩
  | 18 => ⟨S4x8x256x64, .f32⟩
  | 19 => ⟨S4x256x8x64, .f32⟩
  | 20 => ⟨S4x8x256x64, .f32⟩
  | 21 => ⟨S8x15x31, .f32⟩
  | 22 => ⟨S4x8x64x64x64, .f32⟩
  | 23 => ⟨S4x8x64x64x64, .f32⟩
  | 24 => ⟨S4x8x64x64x64, .f32⟩
  | 25 => ⟨S64, .i32⟩
  | 26 => ⟨S_, .i32⟩
  | 27 => ⟨S64, .i32⟩
  | 28 => ⟨S64, .i32⟩
  | 29 => ⟨S_, .i32⟩
  | 30 => ⟨S_, .i32⟩
  | 31 => ⟨S_, .i32⟩
  | 32 => ⟨S64, .i32⟩
  | 33 => ⟨S64, .i32⟩
  | 34 => ⟨S_, .i32⟩
  | 35 => ⟨S64, .i32⟩
  | 36 => ⟨S64, .i32⟩
  | 37 => ⟨S64x1, .i32⟩
  | 38 => ⟨S8, .i32⟩
  | 39 => ⟨S1x8, .i32⟩
  | 40 => ⟨S64x8, .i32⟩
  | 41 => ⟨S64x8, .i32⟩
  | 42 => ⟨S64x8, .i32⟩
  | 43 => ⟨S_, .i32⟩
  | 44 => ⟨S64x8, .i32⟩
  | 45 => ⟨S64x8, .i1⟩
  | 46 => ⟨S_, .i32⟩
  | 47 => ⟨S64x8, .i32⟩
  | 48 => ⟨S64x8, .i32⟩
  | 49 => ⟨S64x8, .i32⟩
  | 50 => ⟨S64x8x1, .i32⟩
  | 51 => ⟨S4x8x64x8x64x64, .f32⟩
  | 52 => ⟨S_, .i32⟩
  | 53 => ⟨S64x8, .i32⟩
  | 54 => ⟨S64x8, .i1⟩
  | 55 => ⟨S_, .i32⟩
  | 56 => ⟨S64x8, .i32⟩
  | 57 => ⟨S64x8, .i32⟩
  | 58 => ⟨S64x8, .i32⟩
  | 59 => ⟨S64x8x1, .i32⟩
  | 60 => ⟨S4x8x64x8x64x64, .f32⟩
  | 61 => ⟨S64, .i32⟩
  | 62 => ⟨S_, .i32⟩
  | 63 => ⟨S64, .i32⟩
  | 64 => ⟨S64, .i32⟩
  | 65 => ⟨S_, .i32⟩
  | 66 => ⟨S_, .i32⟩
  | 67 => ⟨S_, .i32⟩
  | 68 => ⟨S64, .i32⟩
  | 69 => ⟨S64, .i32⟩
  | 70 => ⟨S_, .i32⟩
  | 71 => ⟨S64, .i32⟩
  | 72 => ⟨S64, .i32⟩
  | 73 => ⟨S1x64, .i32⟩
  | 74 => ⟨S64x1, .i32⟩
  | 75 => ⟨S64x64, .i32⟩
  | 76 => ⟨S64x64, .i32⟩
  | 77 => ⟨S64x64, .i1⟩
  | 78 => ⟨S1x64, .i32⟩
  | 79 => ⟨S64x1, .i32⟩
  | 80 => ⟨S_, .i32⟩
  | 81 => ⟨S64x1, .i32⟩
  | 82 => ⟨S64x1, .i32⟩
  | 83 => ⟨S64x64, .i32⟩
  | 84 => ⟨S64x64, .i32⟩
  | 85 => ⟨S64x64, .i1⟩
  | 86 => ⟨S64x64, .i1⟩
  | 87 => ⟨S64x1, .i32⟩
  | 88 => ⟨S64x8, .i32⟩
  | 89 => ⟨S64x8, .i32⟩
  | 90 => ⟨S_, .i32⟩
  | 91 => ⟨S64x8, .i32⟩
  | 92 => ⟨S64x8, .i32⟩
  | 93 => ⟨S_, .i32⟩
  | 94 => ⟨S64x8, .i32⟩
  | 95 => ⟨S64x8, .i32⟩
  | 96 => ⟨S1x64, .i32⟩
  | 97 => ⟨S64x1, .i32⟩
  | 98 => ⟨S64x64, .i32⟩
  | 99 => ⟨S64x64, .i32⟩
  | 100 => ⟨S64x64, .i32⟩
  | 101 => ⟨S_, .i32⟩
  | 102 => ⟨S64x64, .i32⟩
  | 103 => ⟨S64x64, .i32⟩
  | 104 => ⟨S_, .i32⟩
  | 105 => ⟨S64x64, .i32⟩
  | 106 => ⟨S64x64, .i32⟩
  | 107 => ⟨S_, .i32⟩
  | 108 => ⟨S_, .i32⟩
  | 109 => ⟨S_, .i32⟩
  | 110 => ⟨S64x64, .i32⟩
  | 111 => ⟨S64x64, .i32⟩
  | 112 => ⟨S_, .i32⟩
  | 113 => ⟨S64x64, .i32⟩
  | 114 => ⟨S64x64, .i32⟩
  | 115 => ⟨S64x1x8x1, .i32⟩
  | 116 => ⟨S1x64x1x64, .i32⟩
  | 117 => ⟨S_, .i32⟩
  | 118 => ⟨S64x1x8x1, .i32⟩
  | 119 => ⟨S64x1x8x1, .i1⟩
  | 120 => ⟨S_, .i32⟩
  | 121 => ⟨S64x1x8x1, .i32⟩
  | 122 => ⟨S64x1x8x1, .i32⟩
  | 123 => ⟨S64x1x8x1, .i32⟩
  | 124 => ⟨S_, .i32⟩
  | 125 => ⟨S1x64x1x64, .i32⟩
  | 126 => ⟨S1x64x1x64, .i1⟩
  | 127 => ⟨S_, .i32⟩
  | _ => ⟨S4x4096x512, .bf16⟩

abbrev hbmTy0_1 (i : Nat) : BufTy := match i % 128 with
  | 0 => ⟨S1x64x1x64, .i32⟩
  | 1 => ⟨S1x64x1x64, .i32⟩
  | 2 => ⟨S1x64x1x64, .i32⟩
  | 3 => ⟨S64x64x8x64, .i32⟩
  | 4 => ⟨S64x64x8x64, .i32⟩
  | 5 => ⟨S64x64x8x64x1, .i32⟩
  | 6 => ⟨S64x64x8x64x1, .i32⟩
  | 7 => ⟨S64x64x8x64x2, .i32⟩
  | 8 => ⟨S8x64x64x8x64, .f32⟩
  | 9 => ⟨S4x8x64x64x8x64, .f32⟩
  | 10 => ⟨S_, .f32⟩
  | 11 => ⟨S4x8x64x64x8x64, .f32⟩
  | 12 => ⟨S4x8x64x64x8x64, .f32⟩
  | 13 => ⟨S1x8x64x64x8x64, .f32⟩
  | 14 => ⟨S4x8x64x64x8x64, .f32⟩
  | 15 => ⟨S4x8x64x64x8x64, .f32⟩
  | 16 => ⟨S64x1x64, .i1⟩
  | 17 => ⟨S_, .f32⟩
  | 18 => ⟨S_, .f32⟩
  | 19 => ⟨S4x8x64x64x8x64, .i1⟩
  | 20 => ⟨S4x8x64x64x8x64, .f32⟩
  | 21 => ⟨S4x8x64x64x8x64, .f32⟩
  | 22 => ⟨S4x8x64x64x256, .f32⟩
  | 23 => ⟨S_, .f32⟩
  | 24 => ⟨S4x8x64x64x256, .f32⟩
  | 25 => ⟨S4x8x64x64x256, .f32⟩
  | 26 => ⟨S4x8x64x64x512, .f32⟩
  | 27 => ⟨S4x8x64x64x768, .f32⟩
  | 28 => ⟨S_, .f32⟩
  | 29 => ⟨S4x8x64x64, .f32⟩
  | 30 => ⟨S_, .f32⟩
  | 31 => ⟨S4x8x64x64, .f32⟩
  | 32 => ⟨S4x8x64x64, .f32⟩
  | 33 => ⟨S4x8x64x64x1, .f32⟩
  | 34 => ⟨S4x8x64x64x768, .f32⟩
  | 35 => ⟨S4x8x64x64x768, .f32⟩
  | 36 => ⟨S4x8x64x64x768, .f32⟩
  | 37 => ⟨S_, .f32⟩
  | 38 => ⟨S4x8x64x64, .f32⟩
  | 39 => ⟨S4x8x64x64x1, .f32⟩
  | 40 => ⟨S4x8x64x64x768, .f32⟩
  | 41 => ⟨S4x8x64x64x768, .f32⟩
  | 42 => ⟨S4x8x64x64x512, .f32⟩
  | 43 => ⟨S4x8x64x64x8x64, .f32⟩
  | 44 => ⟨S4x8x64x64x256, .f32⟩
  | 45 => ⟨S4x8x64x64x64, .f32⟩
  | 46 => ⟨S4x8x64x64x64, .f32⟩
  | 47 => ⟨S4x8x64x64x64, .f32⟩
  | 48 => ⟨S4x8x4096x64, .f32⟩
  | 49 => ⟨S4x4096x8x64, .f32⟩
  | 50 => ⟨S4x4096x512, .f32⟩
  | 51 => ⟨S4x4096x512, .bf16⟩
  | _ => ⟨S4x4096x512, .bf16⟩

abbrev hbmTy (i : Nat) : BufTy := match i / 128 with
  | 0 => hbmTy0_0 i
  | 1 => hbmTy0_1 i
  | _ => ⟨S4x4096x512, .bf16⟩

abbrev bufTy : (tb : Table) → Fin (tcTables nBuf tb) → BufTy
  | .hbm, ⟨i, _⟩ => hbmTy i
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_c_8 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_10 : Ref sig .tc := ⟨.hbm, 90, rfl⟩
abbrev main_v63 : Ref sig .tc := ⟨.hbm, 91, rfl⟩
abbrev main_v64 : Ref sig .tc := ⟨.hbm, 92, rfl⟩
abbrev main_c_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_12 : Ref sig .tc := ⟨.hbm, 101, rfl⟩
abbrev main_v72 : Ref sig .tc := ⟨.hbm, 102, rfl⟩
abbrev main_v73 : Ref sig .tc := ⟨.hbm, 103, rfl⟩
abbrev main_c_13 : Ref sig .tc := ⟨.hbm, 104, rfl⟩
abbrev main_v74 : Ref sig .tc := ⟨.hbm, 105, rfl⟩
abbrev main_v75 : Ref sig .tc := ⟨.hbm, 106, rfl⟩
abbrev main_c_14 : Ref sig .tc := ⟨.hbm, 107, rfl⟩
abbrev main_c_15 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_16 : Ref sig .tc := ⟨.hbm, 117, rfl⟩
abbrev main_v79 : Ref sig .tc := ⟨.hbm, 118, rfl⟩
abbrev main_v80 : Ref sig .tc := ⟨.hbm, 119, rfl⟩
abbrev main_c_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_18 : Ref sig .tc := ⟨.hbm, 124, rfl⟩
abbrev main_v84 : Ref sig .tc := ⟨.hbm, 125, rfl⟩
abbrev main_v85 : Ref sig .tc := ⟨.hbm, 126, rfl⟩
abbrev main_c_19 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_20 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_v102 : Ref sig .tc := ⟨.hbm, 149, rfl⟩
abbrev main_v103 : Ref sig .tc := ⟨.hbm, 150, rfl⟩
abbrev main_cst_21 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_22 : Ref sig .tc := ⟨.hbm, 156, rfl⟩
abbrev main_v108 : Ref sig .tc := ⟨.hbm, 157, rfl⟩
abbrev main_cst_23 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_24 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩

abbrev nD : Nat := 1
abbrev τ : Topo := Topo.v7x

variable {F : FTy → Type} [FloatOps F]
-- ==== Kernel2.lean ====
abbrev S4x12x512x1024 : Shape := ⟨4, ![4, 12, 512, 1024]⟩
abbrev S1x16x1024x2816 : Shape := ⟨4, ![1, 16, 1024, 2816]⟩
abbrev S1x16x2816x1024 : Shape := ⟨4, ![1, 16, 2816, 1024]⟩
abbrev S16x1024x2816 : Shape := ⟨3, ![16, 1024, 2816]⟩
abbrev S16x2816x1024 : Shape := ⟨3, ![16, 2816, 1024]⟩
abbrev S4x1x512x1024 : Shape := ⟨4, ![4, 1, 512, 1024]⟩
abbrev S1x1024x256 : Shape := ⟨3, ![1, 1024, 256]⟩
abbrev S1x256x1024 : Shape := ⟨3, ![1, 256, 1024]⟩
abbrev S4x512x1024 : Shape := ⟨3, ![4, 512, 1024]⟩
abbrev S1024x256 : Shape := ⟨2, ![1024, 256]⟩
abbrev S256x1024 : Shape := ⟨2, ![256, 1024]⟩
abbrev S1x1x512x1024 : Shape := ⟨4, ![1, 1, 512, 1024]⟩
abbrev S512x1024 : Shape := ⟨2, ![512, 1024]⟩
abbrev S1x512x1024 : Shape := ⟨3, ![1, 512, 1024]⟩
abbrev S512x256 : Shape := ⟨2, ![512, 256]⟩

abbrev nBuf : Space → Nat
  | .hbm => 8
  | .vmem => 12
  | .smem => 0
  | _ => 0

abbrev bufTy : (tb : Table) → Fin (tcTables nBuf tb) → BufTy
  | .hbm, ⟨0, _⟩ => ⟨S4x12x512x1024, .bf16⟩
  | .hbm, ⟨1, _⟩ => ⟨S1x16x1024x2816, .f32⟩
  | .hbm, ⟨2, _⟩ => ⟨S1x16x1024x2816, .f32⟩
  | .hbm, ⟨3, _⟩ => ⟨S1x16x2816x1024, .f32⟩
  | .hbm, ⟨4, _⟩ => ⟨S16x1024x2816, .f32⟩
  | .hbm, ⟨5, _⟩ => ⟨S16x1024x2816, .f32⟩
  | .hbm, ⟨6, _⟩ => ⟨S16x2816x1024, .f32⟩
  | .hbm, ⟨7, _⟩ => ⟨S4x12x512x1024, .bf16⟩
  | .local _ .vmem, ⟨0, _⟩ => ⟨S4x1x512x1024, .bf16⟩
  | .local _ .vmem, ⟨1, _⟩ => ⟨S4x1x512x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S4x1x512x1024, .bf16⟩
  | .local _ .vmem, ⟨9, _⟩ => ⟨S4x1x512x1024, .bf16⟩
  | .local _ .vmem, ⟨10, _⟩ => ⟨S4x512x1024, .f32⟩
  | .local _ .vmem, ⟨11, _⟩ => ⟨S4x512x1024, .bf16⟩
  | _, _ => ⟨S4x12x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S4x12x512x1024 : Shape := ⟨4, ![4, 12, 512, 1024]⟩
abbrev S1x16x1024x2816 : Shape := ⟨4, ![1, 16, 1024, 2816]⟩
abbrev S1x16x2816x1024 : Shape := ⟨4, ![1, 16, 2816, 1024]⟩
abbrev S1x12x1024x2816 : Shape := ⟨4, ![1, 12, 1024, 2816]⟩
abbrev S12x1024x2816 : Shape := ⟨3, ![12, 1024, 2816]⟩
abbrev S1x12x2816x1024 : Shape := ⟨4, ![1, 12, 2816, 1024]⟩
abbrev S12x2816x1024 : Shape := ⟨3, ![12, 2816, 1024]⟩
abbrev S12x2816x4x512 : Shape := ⟨4, ![12, 2816, 4, 512]⟩
abbrev S4x12x512x2816 : Shape := ⟨4, ![4, 12, 512, 2816]⟩
abbrev S_ : Shape := ⟨0, ![]⟩
abbrev S12x1024x4x512 : Shape := ⟨4, ![12, 1024, 4, 512]⟩

abbrev nBuf : Space → Nat
  | .hbm => 28
  | .vmem => 0
  | .smem => 0
  | _ => 0

abbrev bufTy : (tb : Table) → Fin (tcTables nBuf tb) → BufTy
  | .hbm, ⟨0, _⟩ => ⟨S4x12x512x1024, .bf16⟩
  | .hbm, ⟨1, _⟩ => ⟨S1x16x1024x2816, .f32⟩
  | .hbm, ⟨2, _⟩ => ⟨S1x16x1024x2816, .f32⟩
  | .hbm, ⟨3, _⟩ => ⟨S1x16x2816x1024, .f32⟩
  | .hbm, ⟨4, _⟩ => ⟨S1x12x1024x2816, .f32⟩
  | .hbm, ⟨5, _⟩ => ⟨S12x1024x2816, .f32⟩
  | .hbm, ⟨6, _⟩ => ⟨S1x12x1024x2816, .f32⟩
  | .hbm, ⟨7, _⟩ => ⟨S12x1024x2816, .f32⟩
  | .hbm, ⟨8, _⟩ => ⟨S1x12x2816x1024, .f32⟩
  | .hbm, ⟨9, _⟩ => ⟨S12x2816x1024, .f32⟩
  | .hbm, ⟨10, _⟩ => ⟨S4x12x512x1024, .f32⟩
  | .hbm, ⟨11, _⟩ => ⟨S12x2816x4x512, .f32⟩
  | .hbm, ⟨12, _⟩ => ⟨S4x12x512x2816, .f32⟩
  | .hbm, ⟨13, _⟩ => ⟨S4x12x512x2816, .f32⟩
  | .hbm, ⟨14, _⟩ => ⟨S4x12x512x2816, .f32⟩
  | .hbm, ⟨15, _⟩ => ⟨S_, .f32⟩
  | .hbm, ⟨16, _⟩ => ⟨S4x12x512x2816, .f32⟩
  | .hbm, ⟨17, _⟩ => ⟨S4x12x512x2816, .f32⟩
  | .hbm, ⟨18, _⟩ => ⟨S_, .f32⟩
  | .hbm, ⟨19, _⟩ => ⟨S4x12x512x2816, .f32⟩
  | .hbm, ⟨20, _⟩ => ⟨S4x12x512x2816, .f32⟩
  | .hbm, ⟨21, _⟩ => ⟨S4x12x512x2816, .f32⟩
  | .hbm, ⟨22, _⟩ => ⟨S12x2816x4x512, .f32⟩
  | .hbm, ⟨23, _⟩ => ⟨S4x12x512x2816, .f32⟩
  | .hbm, ⟨24, _⟩ => ⟨S4x12x512x2816, .f32⟩
  | .hbm, ⟨25, _⟩ => ⟨S12x1024x4x512, .f32⟩
  | .hbm, ⟨26, _⟩ => ⟨S4x12x512x1024, .f32⟩
  | .hbm, ⟨27, _⟩ => ⟨S4x12x512x1024, .bf16⟩
  | _, _ => ⟨S4x12x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Kernel3.lean ====
abbrev S4x4x512x1024 : Shape := ⟨4, ![4, 4, 512, 1024]⟩
abbrev S1x16x1024x2816 : Shape := ⟨4, ![1, 16, 1024, 2816]⟩
abbrev S1x16x2816x1024 : Shape := ⟨4, ![1, 16, 2816, 1024]⟩
abbrev S16x1024x2816 : Shape := ⟨3, ![16, 1024, 2816]⟩
abbrev S16x2816x1024 : Shape := ⟨3, ![16, 2816, 1024]⟩
abbrev S4x1x512x1024 : Shape := ⟨4, ![4, 1, 512, 1024]⟩
abbrev S1x1024x256 : Shape := ⟨3, ![1, 1024, 256]⟩
abbrev S1x256x1024 : Shape := ⟨3, ![1, 256, 1024]⟩
abbrev S4x512x1024 : Shape := ⟨3, ![4, 512, 1024]⟩
abbrev S1024x256 : Shape := ⟨2, ![1024, 256]⟩
abbrev S256x1024 : Shape := ⟨2, ![256, 1024]⟩
abbrev S1x1x512x1024 : Shape := ⟨4, ![1, 1, 512, 1024]⟩
abbrev S512x1024 : Shape := ⟨2, ![512, 1024]⟩
abbrev S1x512x1024 : Shape := ⟨3, ![1, 512, 1024]⟩
abbrev S512x256 : Shape := ⟨2, ![512, 256]⟩

abbrev nBuf : Space → Nat
  | .hbm => 8
  | .vmem => 12
  | .smem => 0
  | _ => 0

abbrev bufTy : (tb : Table) → Fin (tcTables nBuf tb) → BufTy
  | .hbm, ⟨0, _⟩ => ⟨S4x4x512x1024, .bf16⟩
  | .hbm, ⟨1, _⟩ => ⟨S1x16x1024x2816, .f32⟩
  | .hbm, ⟨2, _⟩ => ⟨S1x16x1024x2816, .f32⟩
  | .hbm, ⟨3, _⟩ => ⟨S1x16x2816x1024, .f32⟩
  | .hbm, ⟨4, _⟩ => ⟨S16x1024x2816, .f32⟩
  | .hbm, ⟨5, _⟩ => ⟨S16x1024x2816, .f32⟩
  | .hbm, ⟨6, _⟩ => ⟨S16x2816x1024, .f32⟩
  | .hbm, ⟨7, _⟩ => ⟨S4x4x512x1024, .bf16⟩
  | .local _ .vmem, ⟨0, _⟩ => ⟨S4x1x512x1024, .bf16⟩
  | .local _ .vmem, ⟨1, _⟩ => ⟨S4x1x512x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S4x1x512x1024, .bf16⟩
  | .local _ .vmem, ⟨9, _⟩ => ⟨S4x1x512x1024, .bf16⟩
  | .local _ .vmem, ⟨10, _⟩ => ⟨S4x512x1024, .f32⟩
  | .local _ .vmem, ⟨11, _⟩ => ⟨S4x512x1024, .bf16⟩
  | _, _ => ⟨S4x4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S4x4x512x1024 : Shape := ⟨4, ![4, 4, 512, 1024]⟩
abbrev S1x16x1024x2816 : Shape := ⟨4, ![1, 16, 1024, 2816]⟩
abbrev S1x16x2816x1024 : Shape := ⟨4, ![1, 16, 2816, 1024]⟩
abbrev S1x4x1024x2816 : Shape := ⟨4, ![1, 4, 1024, 2816]⟩
abbrev S4x1024x2816 : Shape := ⟨3, ![4, 1024, 2816]⟩
abbrev S1x4x2816x1024 : Shape := ⟨4, ![1, 4, 2816, 1024]⟩
abbrev S4x2816x1024 : Shape := ⟨3, ![4, 2816, 1024]⟩
abbrev S4x2816x4x512 : Shape := ⟨4, ![4, 2816, 4, 512]⟩
abbrev S4x4x512x2816 : Shape := ⟨4, ![4, 4, 512, 2816]⟩
abbrev S_ : Shape := ⟨0, ![]⟩
abbrev S4x1024x4x512 : Shape := ⟨4, ![4, 1024, 4, 512]⟩

abbrev nBuf : Space → Nat
  | .hbm => 28
  | .vmem => 0
  | .smem => 0
  | _ => 0

abbrev bufTy : (tb : Table) → Fin (tcTables nBuf tb) → BufTy
  | .hbm, ⟨0, _⟩ => ⟨S4x4x512x1024, .bf16⟩
  | .hbm, ⟨1, _⟩ => ⟨S1x16x1024x2816, .f32⟩
  | .hbm, ⟨2, _⟩ => ⟨S1x16x1024x2816, .f32⟩
  | .hbm, ⟨3, _⟩ => ⟨S1x16x2816x1024, .f32⟩
  | .hbm, ⟨4, _⟩ => ⟨S1x4x1024x2816, .f32⟩
  | .hbm, ⟨5, _⟩ => ⟨S4x1024x2816, .f32⟩
  | .hbm, ⟨6, _⟩ => ⟨S1x4x1024x2816, .f32⟩
  | .hbm, ⟨7, _⟩ => ⟨S4x1024x2816, .f32⟩
  | .hbm, ⟨8, _⟩ => ⟨S1x4x2816x1024, .f32⟩
  | .hbm, ⟨9, _⟩ => ⟨S4x2816x1024, .f32⟩
  | .hbm, ⟨10, _⟩ => ⟨S4x4x512x1024, .f32⟩
  | .hbm, ⟨11, _⟩ => ⟨S4x2816x4x512, .f32⟩
  | .hbm, ⟨12, _⟩ => ⟨S4x4x512x2816, .f32⟩
  | .hbm, ⟨13, _⟩ => ⟨S4x4x512x2816, .f32⟩
  | .hbm, ⟨14, _⟩ => ⟨S4x4x512x2816, .f32⟩
  | .hbm, ⟨15, _⟩ => ⟨S_, .f32⟩
  | .hbm, ⟨16, _⟩ => ⟨S4x4x512x2816, .f32⟩
  | .hbm, ⟨17, _⟩ => ⟨S4x4x512x2816, .f32⟩
  | .hbm, ⟨18, _⟩ => ⟨S_, .f32⟩
  | .hbm, ⟨19, _⟩ => ⟨S4x4x512x2816, .f32⟩
  | .hbm, ⟨20, _⟩ => ⟨S4x4x512x2816, .f32⟩
  | .hbm, ⟨21, _⟩ => ⟨S4x4x512x2816, .f32⟩
  | .hbm, ⟨22, _⟩ => ⟨S4x2816x4x512, .f32⟩
  | .hbm, ⟨23, _⟩ => ⟨S4x4x512x2816, .f32⟩
  | .hbm, ⟨24, _⟩ => ⟨S4x4x512x2816, .f32⟩
  | .hbm, ⟨25, _⟩ => ⟨S4x1024x4x512, .f32⟩
  | .hbm, ⟨26, _⟩ => ⟨S4x4x512x1024, .f32⟩
  | .hbm, ⟨27, _⟩ => ⟨S4x4x512x1024, .bf16⟩
  | _, _ => ⟨S4x4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.FfnMath.lean ====
/- The gated unit of one expert, as plain sums over the extended reals: what one tile of the hidden width adds to an
   output entry, and that the tiles together are the whole hidden width. No program is mentioned here. -/
module

public import Idealize.ShloMosaic.Lib.Pointwise
public import Idealize.ShloMosaic.Lib.IdealHost

@[expose] public section

set_option maxRecDepth 16384

noncomputable section

namespace Cert.Ffn

open Idealize.ShloMosaic

/-- The gated hidden unit as the kernel forms it: the gate over one plus the exponential of its negative, times the
    up value. -/
def gated (g u : EReal) : EReal := Ideal.div g (1 + Ideal.exp (0 - g)) * u

/-- The exponential is never negative. -/
theorem exp_nonneg (x : EReal) : 0 ≤ Ideal.exp x := by
  induction x with
  | bot => exact le_refl _
  | coe r => exact EReal.coe_nonneg.2 (Real.exp_pos r).le
  | top => exact le_top

/-- The sigmoid factored out, as the reference writes it, is the same number. -/
theorem gated_eq (g u : EReal) : g * Ideal.div 1 (1 + Ideal.exp (-g)) * u = gated g u := by
  unfold gated
  have h : (1 + Ideal.exp (-g)) ≠ 0 := by
    have : (0 : EReal) < 1 + Ideal.exp (-g) := lt_of_lt_of_le zero_lt_one (le_add_of_nonneg_right (exp_nonneg _))
    exact this.ne'
  rw [zero_sub, Ideal.mul_one_div h]

/-- What one tile of the weights adds to entry `l` of a token's output: the token's features `x`, the tile's blocks of
    the gate, up and down weights. -/
def tile (x : Fin 1024 → EReal) (g u : FVec Ideal ⟨3, ![1, 1024, 256]⟩ .f32) (d : FVec Ideal ⟨3, ![1, 256, 1024]⟩ .f32)
    (l : Fin 1024) : EReal :=
  ∑ j : Fin 256, gated (∑ k : Fin 1024, x k * g (ix3 0 k j)) (∑ k : Fin 1024, x k * u (ix3 0 k j)) * d (ix3 0 j l)

/-- What the hidden units `f·256 … f·256+255` add to one output entry: a token's features `x`, the two weight columns
    of each hidden unit, and the row of the down weights that leads to the entry. -/
def part (x : Fin 1024 → EReal) (wg wu : Fin 1024 → Fin 2816 → EReal) (wd : Fin 2816 → EReal) (f : ℕ) (hf : f < 11) : EReal :=
  ∑ j : Fin 256, gated (∑ k, x k * wg k ⟨f * 256 + j.val, by omega⟩) (∑ k, x k * wu k ⟨f * 256 + j.val, by omega⟩)
    * wd ⟨f * 256 + j.val, by omega⟩

/-- The eleven parts together are the sum over all hidden units. -/
theorem sum_parts (x : Fin 1024 → EReal) (wg wu : Fin 1024 → Fin 2816 → EReal) (wd : Fin 2816 → EReal) :
    ∑ f : Fin 11, part x wg wu wd f.val f.isLt
      = ∑ l : Fin 2816, gated (∑ k, x k * wg k l) (∑ k, x k * wu k l) * wd l := by
  exact (Fin.sum_univ_tiles 11 256 rfl (fun l => gated (∑ k, x k * wg k l) (∑ k, x k * wu k l) * wd l)).symm

end Cert.Ffn

end
-- ==== Proof.FfnTwelveBody.lean ====
/- The expert feed-forward call on the group of twelve experts: what each grid point leaves in the running sum, in the
   copied tokens and in the output block, as plain sums. -/
module

public import proofs.«01_k».proof.Proof.FfnMath
public import proofs.«01_k».proof.Proof.Gen.Kernel2Ideal.Value
public import Idealize.ShloMosaic.Lib.Pipeline.ValueKit

@[expose] public section

set_option maxRecDepth 16384

noncomputable section

namespace Cert.Kernel2Ideal.Ffn

open Cert.Ffn Cert.Kernel2Ideal Cert.Kernel2Ideal.Gen Idealize.ShloMosaic Idealize.ShloMosaic.TcCoe Idealize.SL.Sem

variable (m : (ℓ : Loc nD τ sig) → Buf (Elt Ideal) ℓ)

/-- The windows' block indices at point `t`: expert `t / 11` of the group, tile `t % 11` of the hidden width; the weights
    are those of all sixteen experts, of which this group's begin at the fourth. -/
theorem idx : ∀ t : Fin cfg0.N, win0_0.index t = ![0, t.val / 11, 0, 0] ∧ win0_1.index t = ![t.val / 11 + 4, 0, t.val % 11]
    ∧ win0_2.index t = ![t.val / 11 + 4, 0, t.val % 11] ∧ win0_3.index t = ![t.val / 11 + 4, t.val % 11, 0]
    ∧ win0_4.index t = ![0, t.val / 11, 0, 0] ∧ t.val / 11 < 12 :=
  (by decide +kernel : ∀ t : Fin grid0.N, _)

/-- The running-sum buffer read whole. -/
theorem read0 (X : Vec Ideal S4x512x1024 .f32) :
    View.read (Elt Ideal) (View.whole cc0_scratch0) ((Memref.isWhole_whole cc0_scratch0).unread X) = X :=
  (Memref.isWhole_whole cc0_scratch0).read_unread X

/-- The token-copy buffer read whole. -/
theorem read1 (X : Vec Ideal S4x512x1024 .bf16) :
    View.read (Elt Ideal) (View.whole cc0_scratch1) ((Memref.isWhole_whole cc0_scratch1).unread X) = X :=
  (Memref.isWhole_whole cc0_scratch1).read_unread X

/-- After a group's first tile the running sum is that tile. -/
theorem acc_first (c : Dev nD) (t : Fin cfg0.N) (h0 : t.val % 11 = 0) (h1 : ¬(1 ≤ t.val % 11 ∧ t.val % 11 ≤ 9)) (h2 : ¬t.val % 11 = 10)
    (y : S4x512x1024.Idx) :
    (outsAt0 m c t.val t.isLt).2.1 y
      = tile (fun k => iblk m c 0 t (ix4 (y 0) 0 (y 1) k)) (iblk m c 1 t) (iblk m c 2 t) (iblk m c 3 t) (y 2) := by
  rw [outsAt0_A m c t h0 h1 h2]
  frame_out
  simp only [View.readCov_cons_toLoadRect]
  canon_tiles x h
  all_goals (open_payloads; pointwise [tile, gated, read0, read1]; blk_point)

/-- At a group's first point the tokens are copied aside. -/
theorem copy_first (c : Dev nD) (t : Fin cfg0.N) (h0 : t.val % 11 = 0) (h1 : ¬(1 ≤ t.val % 11 ∧ t.val % 11 ≤ 9)) (h2 : ¬t.val % 11 = 10)
    (y : S4x512x1024.Idx) :
    (outsAt0 m c t.val t.isLt).2.2 y = iblk m c 0 t (ix4 (y 0) 0 (y 1) (y 2)) := by
  rw [outsAt0_A m c t h0 h1 h2]
  frame_out
  canon_tiles x h
  all_goals (open_payloads; pointwise; blk_point)

/-- The middle points add their tile, computed from the copied tokens, to the running sum. -/
theorem acc_step (c : Dev nD) (t : Fin cfg0.N) (h0 : ¬t.val % 11 = 0) (h1 : (1 ≤ t.val % 11 ∧ t.val % 11 ≤ 9)) (h2 : ¬t.val % 11 = 10)
    (y : S4x512x1024.Idx) :
    (outsAt0 m c t.val t.isLt).2.1 y
      = (show EReal from (outsAt0 m c (t.val - 1) (Nat.lt_of_le_of_lt (Nat.sub_le _ _) t.isLt)).2.1 y)
        + tile (fun k => (outsAt0 m c (t.val - 1) (Nat.lt_of_le_of_lt (Nat.sub_le _ _) t.isLt)).2.2 (ix3 (y 0) (y 1) k))
          (iblk m c 1 t) (iblk m c 2 t) (iblk m c 3 t) (y 2) := by
  rw [outsAt0_B m c t h0 h1 h2]
  frame_out
  canon_tiles x h
  all_goals (open_payloads; pointwise [tile, gated, read0, read1]; blk_point)

/-- The middle points leave the copied tokens alone. -/
theorem copy_step (c : Dev nD) (t : Fin cfg0.N) (h0 : ¬t.val % 11 = 0) (h1 : (1 ≤ t.val % 11 ∧ t.val % 11 ≤ 9)) (h2 : ¬t.val % 11 = 10) :
    (outsAt0 m c t.val t.isLt).2.2 = (outsAt0 m c (t.val - 1) (Nat.lt_of_le_of_lt (Nat.sub_le _ _) t.isLt)).2.2 := by
  rw [outsAt0_B m c t h0 h1 h2]
  rfl

/-- So does the last point. -/
theorem copy_last (c : Dev nD) (t : Fin cfg0.N) (h0 : ¬t.val % 11 = 0) (h1 : ¬(1 ≤ t.val % 11 ∧ t.val % 11 ≤ 9)) (h2 : t.val % 11 = 10) :
    (outsAt0 m c t.val t.isLt).2.2 = (outsAt0 m c (t.val - 1) (Nat.lt_of_le_of_lt (Nat.sub_le _ _) t.isLt)).2.2 := by
  rw [outsAt0_C m c t h0 h1 h2]
  rfl

/-- A group's last point writes the running sum with the last tile added. -/
theorem out_last (c : Dev nD) (t : Fin cfg0.N) (h0 : ¬t.val % 11 = 0) (h1 : ¬(1 ≤ t.val % 11 ∧ t.val % 11 ≤ 9)) (h2 : t.val % 11 = 10)
    (y : S4x1x512x1024.Idx) :
    (outsAt0 m c t.val t.isLt).1 y
      = (show EReal from (outsAt0 m c (t.val - 1) (Nat.lt_of_le_of_lt (Nat.sub_le _ _) t.isLt)).2.1 (ix3 (y 0) (y 2) (y 3)))
        + tile (fun k => (outsAt0 m c (t.val - 1) (Nat.lt_of_le_of_lt (Nat.sub_le _ _) t.isLt)).2.2 (ix3 (y 0) (y 2) k))
          (iblk m c 1 t) (iblk m c 2 t) (iblk m c 3 t) (y 3) := by
  rw [outsAt0_C m c t h0 h1 h2]
  frame_out
  canon_tiles x h
  all_goals (open_payloads; pointwise [tile, gated, read0, read1]; blk_point)

end Cert.Kernel2Ideal.Ffn
-- ==== Proof.FfnTwelveValue.lean ====
/- The expert feed-forward call on the group of twelve experts: the result array, and that it is the reference's. -/
module

public import proofs.«01_k».proof.Proof.FfnTwelveBody
public import proofs.«01_k».proof.Proof.Gen.Reference2Ideal.Run

@[expose] public section

set_option maxRecDepth 16384

noncomputable section

namespace Cert.Kernel2Ideal.Ffn

open Cert.Ffn Cert.Kernel2Ideal Cert.Kernel2Ideal.Gen Idealize.ShloMosaic Idealize.ShloMosaic.TcCoe Idealize.SL.Sem
open Idealize.ShloMosaic.Pipeline (Dat)

/-- One entry of the result: batch `b`, expert `e` of the group, token `r`, feature `l`, as the sum over the expert's
    whole hidden width. -/
def entry (X : FVec Ideal S4x12x512x1024 .bf16) (Wg Wu : FVec Ideal S1x16x1024x2816 .f32) (Wd : FVec Ideal S1x16x2816x1024 .f32)
    (b : Fin 4) (e : Fin 12) (r : Fin 512) (l : Fin 1024) : EReal :=
  ∑ j : Fin 2816, gated (∑ k : Fin 1024, X (ix4 b e r k) * Wg (ix4 0 ⟨4 + e.val, by omega⟩ k j))
    (∑ k : Fin 1024, X (ix4 b e r k) * Wu (ix4 0 ⟨4 + e.val, by omega⟩ k j)) * Wd (ix4 0 ⟨4 + e.val, by omega⟩ j l)

variable (m : (ℓ : Loc nD τ sig) → Buf (Elt Ideal) ℓ)

/-- The tokens the kernel is given. -/
abbrev tok (c : Dev nD) : FVec Ideal S4x12x512x1024 .bf16 := m ((c : Thread nD τ).loc main_arg0)
/-- The gate weights. -/
abbrev gate (c : Dev nD) : FVec Ideal S1x16x1024x2816 .f32 := m ((c : Thread nD τ).loc main_arg1)
/-- The up weights. -/
abbrev up (c : Dev nD) : FVec Ideal S1x16x1024x2816 .f32 := m ((c : Thread nD τ).loc main_arg2)
/-- The down weights. -/
abbrev down (c : Dev nD) : FVec Ideal S1x16x2816x1024 .f32 := m ((c : Thread nD τ).loc main_arg3)

/-- What the hidden units of tile `f` add to entry `(b, e, r, l)`. -/
def share (c : Dev nD) (b : Fin 4) (e : Fin 12) (r : Fin 512) (l : Fin 1024) (f : ℕ) (hf : f < 11) : EReal :=
  part (fun k => tok m c (ix4 b e r k)) (fun k j => gate m c (ix4 0 ⟨4 + e.val, by omega⟩ k j))
    (fun k j => up m c (ix4 0 ⟨4 + e.val, by omega⟩ k j)) (fun j => down m c (ix4 0 ⟨4 + e.val, by omega⟩ j l)) f hf

/-- The token block at point `t` is expert `t / 11`'s tokens. -/
theorem tokens_at (c : Dev nD) (t : Fin cfg0.N) (b : Fin 4) (r : Fin 512) (k : Fin 1024) :
    iblk m c 0 t (ix4 b 0 r k) = tok m c (ix4 b ⟨t.val / 11, (idx t).2.2.2.2.2⟩ r k) := by
  blk_point [iblk, V, idx t]

/-- The gate block at point `t`: tile `t % 11` of its expert's gate weights. -/
theorem gate_at (c : Dev nD) (t : Fin cfg0.N) (k : Fin 1024) (j : Fin 256) :
    iblk m c 1 t (ix3 0 k j) = gate m c (ix4 0 ⟨4 + t.val / 11, by have := (idx t).2.2.2.2.2; omega⟩ k ⟨t.val % 11 * 256 + j.val, by omega⟩) := by
  unfold iblk
  rw [View.read_apply]
  show V m c main_v0 _ = _
  entry_read
  pointwise
  blk_ext [idx t]

/-- The up block at point `t`. -/
theorem up_at (c : Dev nD) (t : Fin cfg0.N) (k : Fin 1024) (j : Fin 256) :
    iblk m c 2 t (ix3 0 k j) = up m c (ix4 0 ⟨4 + t.val / 11, by have := (idx t).2.2.2.2.2; omega⟩ k ⟨t.val % 11 * 256 + j.val, by omega⟩) := by
  unfold iblk
  rw [View.read_apply]
  show V m c main_v1 _ = _
  entry_read
  pointwise
  blk_ext [idx t]

/-- The down block at point `t`. -/
theorem down_at (c : Dev nD) (t : Fin cfg0.N) (j : Fin 256) (l : Fin 1024) :
    iblk m c 3 t (ix3 0 j l) = down m c (ix4 0 ⟨4 + t.val / 11, by have := (idx t).2.2.2.2.2; omega⟩ ⟨t.val % 11 * 256 + j.val, by omega⟩ l) := by
  unfold iblk
  rw [View.read_apply]
  show V m c main_v2 _ = _
  entry_read
  pointwise
  blk_ext [idx t]

/-- The tile of the weights staged at point `t` adds exactly the share of the hidden units it covers. -/
theorem tile_at (c : Dev nD) (t : Fin cfg0.N) (b : Fin 4) (r : Fin 512) (l : Fin 1024) :
    tile (fun k => tok m c (ix4 b ⟨t.val / 11, (idx t).2.2.2.2.2⟩ r k)) (iblk m c 1 t) (iblk m c 2 t) (iblk m c 3 t) l
      = share m c b ⟨t.val / 11, (idx t).2.2.2.2.2⟩ r l (t.val % 11) (Nat.mod_lt _ (by decide)) := by
  unfold tile share part
  refine Finset.sum_congr rfl fun j _ => ?_
  refine Ideal.mul_congr (congrArg₂ gated (Finset.sum_congr rfl fun k _ => ?_) (Finset.sum_congr rfl fun k _ => ?_)) (down_at m c t j l)
  · exact Ideal.mul_congr rfl (gate_at m c t k j)
  · exact Ideal.mul_congr rfl (up_at m c t k j)

/-- The copied tokens are expert `n / 11`'s at every point `n` of its run. -/
theorem copy_at (c : Dev nD) (b : Fin 4) (r : Fin 512) (k : Fin 1024) : ∀ (n : ℕ) (h : n < cfg0.N),
    (outsAt0 m c n h).2.2 (ix3 b r k) = tok m c (ix4 b ⟨n / 11, (idx ⟨n, h⟩).2.2.2.2.2⟩ r k) := by
  intro n
  induction n with
  | zero =>
    intro h
    exact (copy_first m c ⟨0, h⟩ (Nat.zero_mod 11) (by show ¬(1 ≤ 0 % 11 ∧ 0 % 11 ≤ 9); decide) (by show ¬0 % 11 = 10; decide) _).trans (tokens_at m c ⟨0, h⟩ b r k)
  | succ n ih =>
    intro h
    by_cases h0 : (n + 1) % 11 = 0
    · exact (copy_first m c ⟨n + 1, h⟩ h0 (by show ¬(1 ≤ (n + 1) % 11 ∧ (n + 1) % 11 ≤ 9); omega) (by show ¬(n + 1) % 11 = 10; omega) _).trans (tokens_at m c ⟨n + 1, h⟩ b r k)
    · have e : (⟨n / 11, (idx ⟨n, Nat.lt_of_succ_lt h⟩).2.2.2.2.2⟩ : Fin 12) = ⟨(n + 1) / 11, (idx ⟨n + 1, h⟩).2.2.2.2.2⟩ :=
        Fin.ext (by show n / 11 = (n + 1) / 11; omega)
      rw [← e, ← ih (Nat.lt_of_succ_lt h)]
      by_cases h1 : 1 ≤ (n + 1) % 11 ∧ (n + 1) % 11 ≤ 9
      · exact congrFun (copy_step m c ⟨n + 1, h⟩ h0 h1 (by show ¬(n + 1) % 11 = 10; omega)) _
      · exact congrFun (copy_last m c ⟨n + 1, h⟩ h0 h1 (by show (n + 1) % 11 = 10; omega)) _

/-- After tile `f` (of the first ten) the running sum of expert `e` holds the shares of tiles `0 … f`. -/
theorem acc_at (c : Dev nD) (e : Fin 12) (b : Fin 4) (r : Fin 512) (l : Fin 1024) : ∀ (f : ℕ) (hf : f < 10) (h : 11 * e.val + f < cfg0.N),
    (outsAt0 m c (11 * e.val + f) h).2.1 (ix3 b r l) = ∑ g : Fin (f + 1), share m c b e r l g.val (by omega) := by
  intro f
  induction f with
  | zero =>
    intro hf h
    refine (acc_first m c ⟨11 * e.val + 0, h⟩ (by show (11 * e.val + 0) % 11 = 0; omega) (by show ¬(1 ≤ (11 * e.val + 0) % 11 ∧ _); omega) (by show ¬(11 * e.val + 0) % 11 = 10; omega) _).trans ?_
    refine (congrArg (fun x => tile x (iblk m c 1 ⟨11 * e.val + 0, h⟩) (iblk m c 2 ⟨11 * e.val + 0, h⟩) (iblk m c 3 ⟨11 * e.val + 0, h⟩) l)
      (funext fun k => tokens_at m c ⟨11 * e.val + 0, h⟩ b r k)).trans ?_
    refine (tile_at m c ⟨11 * e.val + 0, h⟩ b r l).trans ?_
    rw [Fin.sum_univ_one]
    congr 1
    · exact Fin.ext (by show (11 * e.val + 0) / 11 = e.val; omega)
    · show (11 * e.val + 0) % 11 = 0; omega
  | succ f ih =>
    intro hf h
    have hlt : 11 * e.val + f < cfg0.N := Nat.lt_of_succ_lt h
    refine (acc_step m c ⟨11 * e.val + (f + 1), h⟩ (by show ¬(11 * e.val + (f + 1)) % 11 = 0; omega) (by show 1 ≤ (11 * e.val + (f + 1)) % 11 ∧ (11 * e.val + (f + 1)) % 11 ≤ 9; omega) (by show ¬(11 * e.val + (f + 1)) % 11 = 10; omega) _).trans ?_
    rw [Fin.sum_univ_castSucc]
    refine Ideal.add_congr (ih (by omega) hlt) ?_
    refine (congrArg (fun x => tile x (iblk m c 1 ⟨11 * e.val + (f + 1), h⟩) (iblk m c 2 ⟨11 * e.val + (f + 1), h⟩) (iblk m c 3 ⟨11 * e.val + (f + 1), h⟩) l)
      (funext fun k => (copy_at m c b r k (11 * e.val + f) hlt).trans (congrArg (fun q => tok m c (ix4 b q r k))
        (Fin.ext (by show (11 * e.val + f) / 11 = (11 * e.val + (f + 1)) / 11; omega) : _ = (⟨(11 * e.val + (f + 1)) / 11, (idx ⟨11 * e.val + (f + 1), h⟩).2.2.2.2.2⟩ : Fin 12))))).trans ?_
    refine (tile_at m c ⟨11 * e.val + (f + 1), h⟩ b r l).trans ?_
    congr 1
    · exact Fin.ext (by show (11 * e.val + (f + 1)) / 11 = e.val; omega)
    · show (11 * e.val + (f + 1)) % 11 = f + 1; omega

/-- The state after a point depends on the point's number alone. -/
theorem outs_congr (c : Dev nD) {p q : ℕ} (e : p = q) (hp : p < cfg0.N) (hq : q < cfg0.N) : outsAt0 m c p hp = outsAt0 m c q hq := by
  subst e; rfl

/-- The output block an expert's last point writes: the whole sum over the expert's hidden width. -/
theorem out_at (c : Dev nD) (t : Fin cfg0.N) (ht : t.val % 11 = 10) (b : Fin 4) (r : Fin 512) (l : Fin 1024) (z : Fin 1) :
    (outsAt0 m c t.val t.isLt).1 (ix4 b z r l)
      = entry (tok m c) (gate m c) (up m c) (down m c) b ⟨t.val / 11, (idx t).2.2.2.2.2⟩ r l := by
  have hlt : t.val - 1 < cfg0.N := Nat.lt_of_le_of_lt (Nat.sub_le _ _) t.isLt
  refine (out_last m c t (by omega) (by omega) ht _).trans ?_
  refine Eq.trans ?_ (sum_parts (fun k => tok m c (ix4 b ⟨t.val / 11, (idx t).2.2.2.2.2⟩ r k)) _ _ _)
  rw [Fin.sum_univ_castSucc]
  refine Ideal.add_congr ?_ ?_
  · have hp : t.val - 1 = 11 * (t.val / 11) + 9 := by omega
    have key := acc_at m c ⟨t.val / 11, (idx t).2.2.2.2.2⟩ b r l 9 (by decide) (lt_of_eq_of_lt hp.symm hlt)
    refine Eq.trans ?_ key
    exact congrArg (fun q => q.2.1 (ix3 b r l)) (outs_congr m c hp hlt _)
  · refine (congrArg (fun x => tile x (iblk m c 1 t) (iblk m c 2 t) (iblk m c 3 t) l)
      (funext fun k => (copy_at m c b r k (t.val - 1) hlt).trans (congrArg (fun q => tok m c (ix4 b q r k))
        (Fin.ext (by show (t.val - 1) / 11 = t.val / 11; omega) : _ = (⟨t.val / 11, (idx t).2.2.2.2.2⟩ : Fin 12))))).trans ?_
    refine (tile_at m c t b r l).trans ?_
    show share m c b _ r l (t.val % 11) _ = share m c b _ r l 10 _
    congr 1

/-- The result array after the run, entry by entry. -/
theorem result_eq (c : Dev nD) :
    (dats m 0 c).arrAt 4 cfg0.N = fun i => entry (tok m c) (gate m c) (up m c) (down m c) (i 0) (i 1) (i 2) (i 3) := by
  refine (dats m 0 c).arrAt_eq_of_covers 4 _ (by decide +kernel) fun t hf y => ?_
  blk_simp
  rw [after0_4]
  have ht : t.val % 11 = 10 := (flush0_4 t).mp hf
  obtain ⟨b, z, r, l, rfl⟩ : ∃ (b : Fin 4) (z : Fin 1) (r : Fin 512) (l : Fin 1024), y = ix4 b z r l := ⟨y 0, y 1, y 2, y 3, eq_ix4 y⟩
  refine (out_at m c t ht b r l z).trans ?_
  have hz := z.isLt
  congr 1 <;> (refine Fin.ext ?_; blk_simp [idx t] <;> try omega)

/-- The reference's result as a function of its arguments. -/
def REF (X : FVec Ideal S4x12x512x1024 .bf16) (Wg Wu : FVec Ideal S1x16x1024x2816 .f32) (Wd : FVec Ideal S1x16x2816x1024 .f32) :
    FVec Ideal S4x12x512x1024 .bf16 :=
  truncf .bf16 (transpose Cert.Reference2Ideal.S4x12x512x1024 [2, 0, 3, 1] (Host.dotGeneral Cert.Reference2Ideal.dot_S12x2816x1024_S4x12x512x2816_S12x1024x4x512_1_3_2_02_0_1 none (shapeCast _ (extractStridedSlice Cert.Reference2Ideal.S1x12x2816x1024 ![0, 4, 0, 0] Wd Cert.Reference2Ideal.Gen.slices_S1x16x2816x1024_S1x12x2816x1024_0_4_0_0) Cert.Reference2Ideal.Gen.shapeCasts_S1x12x2816x1024_S12x2816x1024) (mulf (mulf (transpose Cert.Reference2Ideal.S4x12x512x2816 [2, 0, 3, 1] (Host.dotGeneral Cert.Reference2Ideal.dot_S12x1024x2816_S4x12x512x1024_S12x2816x4x512_1_3_2_02_0_1 none (shapeCast _ (extractStridedSlice Cert.Reference2Ideal.S1x12x1024x2816 ![0, 4, 0, 0] Wg Cert.Reference2Ideal.Gen.slices_S1x16x1024x2816_S1x12x1024x2816_0_4_0_0) Cert.Reference2Ideal.Gen.shapeCasts_S1x12x1024x2816_S12x1024x2816) (extf .f32 X Cert.Reference2Ideal.Gen.bitsLt_bf16_f32)) Cert.Reference2Ideal.Gen.transposes_S12x2816x4x512_S4x12x512x2816_2_0_3_1) (Host.divf (broadcastInDim Cert.Reference2Ideal.S4x12x512x2816 ![] Cert.Reference2Ideal.Gen.bcast_S_S4x12x512x2816 (constant Cert.Reference2Ideal.S_ .f32 0x3F800000#32)) (addf (broadcastInDim Cert.Reference2Ideal.S4x12x512x2816 ![] Cert.Reference2Ideal.Gen.bcast_S_S4x12x512x2816 (constant Cert.Reference2Ideal.S_ .f32 0x3F800000#32)) (Host.exp (Host.negf (transpose Cert.Reference2Ideal.S4x12x512x2816 [2, 0, 3, 1] (Host.dotGeneral Cert.Reference2Ideal.dot_S12x1024x2816_S4x12x512x1024_S12x2816x4x512_1_3_2_02_0_1 none (shapeCast _ (extractStridedSlice Cert.Reference2Ideal.S1x12x1024x2816 ![0, 4, 0, 0] Wg Cert.Reference2Ideal.Gen.slices_S1x16x1024x2816_S1x12x1024x2816_0_4_0_0) Cert.Reference2Ideal.Gen.shapeCasts_S1x12x1024x2816_S12x1024x2816) (extf .f32 X Cert.Reference2Ideal.Gen.bitsLt_bf16_f32)) Cert.Reference2Ideal.Gen.transposes_S12x2816x4x512_S4x12x512x2816_2_0_3_1)))))) (transpose Cert.Reference2Ideal.S4x12x512x2816 [2, 0, 3, 1] (Host.dotGeneral Cert.Reference2Ideal.dot_S12x1024x2816_S4x12x512x1024_S12x2816x4x512_1_3_2_02_0_1 none (shapeCast _ (extractStridedSlice Cert.Reference2Ideal.S1x12x1024x2816 ![0, 4, 0, 0] Wu Cert.Reference2Ideal.Gen.slices_S1x16x1024x2816_S1x12x1024x2816_0_4_0_0) Cert.Reference2Ideal.Gen.shapeCasts_S1x12x1024x2816_S12x1024x2816) (extf .f32 X Cert.Reference2Ideal.Gen.bitsLt_bf16_f32)) Cert.Reference2Ideal.Gen.transposes_S12x2816x4x512_S4x12x512x2816_2_0_3_1))) Cert.Reference2Ideal.Gen.transposes_S12x1024x4x512_S4x12x512x1024_2_0_3_1) Cert.Reference2Ideal.Gen.bitsLt_bf16_f32

/-- The reference's result, entry by entry: its contractions have the weights on the left, and its sigmoid is written out. -/
theorem REF_at (X : FVec Ideal S4x12x512x1024 .bf16) (Wg Wu : FVec Ideal S1x16x1024x2816 .f32) (Wd : FVec Ideal S1x16x2816x1024 .f32)
    (b : Fin 4) (e : Fin 12) (r : Fin 512) (l : Fin 1024) :
    REF X Wg Wu Wd (ix4 b e r l) = entry X Wg Wu Wd b e r l := by
  pointwise [REF]
  unfold entry
  refine Finset.sum_congr rfl fun j _ => ?_
  rw [gated_eq, mul_comm]
  simp only [mul_comm (X _)]

end Cert.Kernel2Ideal.Ffn
-- ==== Proof.FfnFourBody.lean ====
/- The expert feed-forward call on the group of four experts: what each grid point leaves in the running sum, in the
   copied tokens and in the output block, as plain sums. -/
module

public import proofs.«01_k».proof.Proof.FfnMath
public import proofs.«01_k».proof.Proof.Gen.Kernel3Ideal.Value
public import Idealize.ShloMosaic.Lib.Pipeline.ValueKit

@[expose] public section

set_option maxRecDepth 16384

noncomputable section

namespace Cert.Kernel3Ideal.Ffn

open Cert.Ffn Cert.Kernel3Ideal Cert.Kernel3Ideal.Gen Idealize.ShloMosaic Idealize.ShloMosaic.TcCoe Idealize.SL.Sem

variable (m : (ℓ : Loc nD τ sig) → Buf (Elt Ideal) ℓ)

/-- The windows' block indices at point `t`: expert `t / 11` of the group, tile `t % 11` of the hidden width; the weights
    are those of all sixteen experts, of which this group are the first four. -/
theorem idx : ∀ t : Fin cfg0.N, win0_0.index t = ![0, t.val / 11, 0, 0] ∧ win0_1.index t = ![t.val / 11, 0, t.val % 11]
    ∧ win0_2.index t = ![t.val / 11, 0, t.val % 11] ∧ win0_3.index t = ![t.val / 11, t.val % 11, 0]
    ∧ win0_4.index t = ![0, t.val / 11, 0, 0] ∧ t.val / 11 < 4 :=
  (by decide +kernel : ∀ t : Fin grid0.N, _)

/-- The running-sum buffer read whole. -/
theorem read0 (X : Vec Ideal S4x512x1024 .f32) :
    View.read (Elt Ideal) (View.whole cc0_scratch0) ((Memref.isWhole_whole cc0_scratch0).unread X) = X :=
  (Memref.isWhole_whole cc0_scratch0).read_unread X

/-- The token-copy buffer read whole. -/
theorem read1 (X : Vec Ideal S4x512x1024 .bf16) :
    View.read (Elt Ideal) (View.whole cc0_scratch1) ((Memref.isWhole_whole cc0_scratch1).unread X) = X :=
  (Memref.isWhole_whole cc0_scratch1).read_unread X

/-- After a group's first tile the running sum is that tile. -/
theorem acc_first (c : Dev nD) (t : Fin cfg0.N) (h0 : t.val % 11 = 0) (h1 : ¬(1 ≤ t.val % 11 ∧ t.val % 11 ≤ 9)) (h2 : ¬t.val % 11 = 10)
    (y : S4x512x1024.Idx) :
    (outsAt0 m c t.val t.isLt).2.1 y
      = tile (fun k => iblk m c 0 t (ix4 (y 0) 0 (y 1) k)) (iblk m c 1 t) (iblk m c 2 t) (iblk m c 3 t) (y 2) := by
  rw [outsAt0_A m c t h0 h1 h2]
  frame_out
  simp only [View.readCov_cons_toLoadRect]
  canon_tiles x h
  all_goals (open_payloads; pointwise [tile, gated, read0, read1]; blk_point)

/-- At a group's first point the tokens are copied aside. -/
theorem copy_first (c : Dev nD) (t : Fin cfg0.N) (h0 : t.val % 11 = 0) (h1 : ¬(1 ≤ t.val % 11 ∧ t.val % 11 ≤ 9)) (h2 : ¬t.val % 11 = 10)
    (y : S4x512x1024.Idx) :
    (outsAt0 m c t.val t.isLt).2.2 y = iblk m c 0 t (ix4 (y 0) 0 (y 1) (y 2)) := by
  rw [outsAt0_A m c t h0 h1 h2]
  frame_out
  canon_tiles x h
  all_goals (open_payloads; pointwise; blk_point)

/-- The middle points add their tile, computed from the copied tokens, to the running sum. -/
theorem acc_step (c : Dev nD) (t : Fin cfg0.N) (h0 : ¬t.val % 11 = 0) (h1 : (1 ≤ t.val % 11 ∧ t.val % 11 ≤ 9)) (h2 : ¬t.val % 11 = 10)
    (y : S4x512x1024.Idx) :
    (outsAt0 m c t.val t.isLt).2.1 y
      = (show EReal from (outsAt0 m c (t.val - 1) (Nat.lt_of_le_of_lt (Nat.sub_le _ _) t.isLt)).2.1 y)
        + tile (fun k => (outsAt0 m c (t.val - 1) (Nat.lt_of_le_of_lt (Nat.sub_le _ _) t.isLt)).2.2 (ix3 (y 0) (y 1) k))
          (iblk m c 1 t) (iblk m c 2 t) (iblk m c 3 t) (y 2) := by
  rw [outsAt0_B m c t h0 h1 h2]
  frame_out
  canon_tiles x h
  all_goals (open_payloads; pointwise [tile, gated, read0, read1]; blk_point)

/-- The middle points leave the copied tokens alone. -/
theorem copy_step (c : Dev nD) (t : Fin cfg0.N) (h0 : ¬t.val % 11 = 0) (h1 : (1 ≤ t.val % 11 ∧ t.val % 11 ≤ 9)) (h2 : ¬t.val % 11 = 10) :
    (outsAt0 m c t.val t.isLt).2.2 = (outsAt0 m c (t.val - 1) (Nat.lt_of_le_of_lt (Nat.sub_le _ _) t.isLt)).2.2 := by
  rw [outsAt0_B m c t h0 h1 h2]
  rfl

/-- So does the last point. -/
theorem copy_last (c : Dev nD) (t : Fin cfg0.N) (h0 : ¬t.val % 11 = 0) (h1 : ¬(1 ≤ t.val % 11 ∧ t.val % 11 ≤ 9)) (h2 : t.val % 11 = 10) :
    (outsAt0 m c t.val t.isLt).2.2 = (outsAt0 m c (t.val - 1) (Nat.lt_of_le_of_lt (Nat.sub_le _ _) t.isLt)).2.2 := by
  rw [outsAt0_C m c t h0 h1 h2]
  rfl

/-- A group's last point writes the running sum with the last tile added. -/
theorem out_last (c : Dev nD) (t : Fin cfg0.N) (h0 : ¬t.val % 11 = 0) (h1 : ¬(1 ≤ t.val % 11 ∧ t.val % 11 ≤ 9)) (h2 : t.val % 11 = 10)
    (y : S4x1x512x1024.Idx) :
    (outsAt0 m c t.val t.isLt).1 y
      = (show EReal from (outsAt0 m c (t.val - 1) (Nat.lt_of_le_of_lt (Nat.sub_le _ _) t.isLt)).2.1 (ix3 (y 0) (y 2) (y 3)))
        + tile (fun k => (outsAt0 m c (t.val - 1) (Nat.lt_of_le_of_lt (Nat.sub_le _ _) t.isLt)).2.2 (ix3 (y 0) (y 2) k))
          (iblk m c 1 t) (iblk m c 2 t) (iblk m c 3 t) (y 3) := by
  rw [outsAt0_C m c t h0 h1 h2]
  frame_out
  canon_tiles x h
  all_goals (open_payloads; pointwise [tile, gated, read0, read1]; blk_point)

end Cert.Kernel3Ideal.Ffn
-- ==== Proof.FfnFourValue.lean ====
/- The expert feed-forward call on the group of four experts: the result array, and that it is the reference's. -/
module

public import proofs.«01_k».proof.Proof.FfnFourBody
public import proofs.«01_k».proof.Proof.Gen.Reference3Ideal.Run

@[expose] public section

set_option maxRecDepth 16384

noncomputable section

namespace Cert.Kernel3Ideal.Ffn

open Cert.Ffn Cert.Kernel3Ideal Cert.Kernel3Ideal.Gen Idealize.ShloMosaic Idealize.ShloMosaic.TcCoe Idealize.SL.Sem
open Idealize.ShloMosaic.Pipeline (Dat)

/-- One entry of the result: batch `b`, expert `e` of the group, token `r`, feature `l`, as the sum over the expert's
    whole hidden width. -/
def entry (X : FVec Ideal S4x4x512x1024 .bf16) (Wg Wu : FVec Ideal S1x16x1024x2816 .f32) (Wd : FVec Ideal S1x16x2816x1024 .f32)
    (b : Fin 4) (e : Fin 4) (r : Fin 512) (l : Fin 1024) : EReal :=
  ∑ j : Fin 2816, gated (∑ k : Fin 1024, X (ix4 b e r k) * Wg (ix4 0 ⟨e.val, by omega⟩ k j))
    (∑ k : Fin 1024, X (ix4 b e r k) * Wu (ix4 0 ⟨e.val, by omega⟩ k j)) * Wd (ix4 0 ⟨e.val, by omega⟩ j l)

variable (m : (ℓ : Loc nD τ sig) → Buf (Elt Ideal) ℓ)

/-- The tokens the kernel is given. -/
abbrev tok (c : Dev nD) : FVec Ideal S4x4x512x1024 .bf16 := m ((c : Thread nD τ).loc main_arg0)
/-- The gate weights. -/
abbrev gate (c : Dev nD) : FVec Ideal S1x16x1024x2816 .f32 := m ((c : Thread nD τ).loc main_arg1)
/-- The up weights. -/
abbrev up (c : Dev nD) : FVec Ideal S1x16x1024x2816 .f32 := m ((c : Thread nD τ).loc main_arg2)
/-- The down weights. -/
abbrev down (c : Dev nD) : FVec Ideal S1x16x2816x1024 .f32 := m ((c : Thread nD τ).loc main_arg3)

/-- What the hidden units of tile `f` add to entry `(b, e, r, l)`. -/
def share (c : Dev nD) (b : Fin 4) (e : Fin 4) (r : Fin 512) (l : Fin 1024) (f : ℕ) (hf : f < 11) : EReal :=
  part (fun k => tok m c (ix4 b e r k)) (fun k j => gate m c (ix4 0 ⟨e.val, by omega⟩ k j))
    (fun k j => up m c (ix4 0 ⟨e.val, by omega⟩ k j)) (fun j => down m c (ix4 0 ⟨e.val, by omega⟩ j l)) f hf

/-- The token block at point `t` is expert `t / 11`'s tokens. -/
theorem tokens_at (c : Dev nD) (t : Fin cfg0.N) (b : Fin 4) (r : Fin 512) (k : Fin 1024) :
    iblk m c 0 t (ix4 b 0 r k) = tok m c (ix4 b ⟨t.val / 11, (idx t).2.2.2.2.2⟩ r k) := by
  blk_point [iblk, V, idx t]

/-- The gate block at point `t`: tile `t % 11` of its expert's gate weights. -/
theorem gate_at (c : Dev nD) (t : Fin cfg0.N) (k : Fin 1024) (j : Fin 256) :
    iblk m c 1 t (ix3 0 k j) = gate m c (ix4 0 ⟨t.val / 11, by have := (idx t).2.2.2.2.2; omega⟩ k ⟨t.val % 11 * 256 + j.val, by omega⟩) := by
  unfold iblk
  rw [View.read_apply]
  show V m c main_v0 _ = _
  entry_read
  pointwise
  blk_ext [idx t]

/-- The up block at point `t`. -/
theorem up_at (c : Dev nD) (t : Fin cfg0.N) (k : Fin 1024) (j : Fin 256) :
    iblk m c 2 t (ix3 0 k j) = up m c (ix4 0 ⟨t.val / 11, by have := (idx t).2.2.2.2.2; omega⟩ k ⟨t.val % 11 * 256 + j.val, by omega⟩) := by
  unfold iblk
  rw [View.read_apply]
  show V m c main_v1 _ = _
  entry_read
  pointwise
  blk_ext [idx t]

/-- The down block at point `t`. -/
theorem down_at (c : Dev nD) (t : Fin cfg0.N) (j : Fin 256) (l : Fin 1024) :
    iblk m c 3 t (ix3 0 j l) = down m c (ix4 0 ⟨t.val / 11, by have := (idx t).2.2.2.2.2; omega⟩ ⟨t.val % 11 * 256 + j.val, by omega⟩ l) := by
  unfold iblk
  rw [View.read_apply]
  show V m c main_v2 _ = _
  entry_read
  pointwise
  blk_ext [idx t]

/-- The tile of the weights staged at point `t` adds exactly the share of the hidden units it covers. -/
theorem tile_at (c : Dev nD) (t : Fin cfg0.N) (b : Fin 4) (r : Fin 512) (l : Fin 1024) :
    tile (fun k => tok m c (ix4 b ⟨t.val / 11, (idx t).2.2.2.2.2⟩ r k)) (iblk m c 1 t) (iblk m c 2 t) (iblk m c 3 t) l
      = share m c b ⟨t.val / 11, (idx t).2.2.2.2.2⟩ r l (t.val % 11) (Nat.mod_lt _ (by decide)) := by
  unfold tile share part
  refine Finset.sum_congr rfl fun j _ => ?_
  refine Ideal.mul_congr (congrArg₂ gated (Finset.sum_congr rfl fun k _ => ?_) (Finset.sum_congr rfl fun k _ => ?_)) (down_at m c t j l)
  · exact Ideal.mul_congr rfl (gate_at m c t k j)
  · exact Ideal.mul_congr rfl (up_at m c t k j)

/-- The copied tokens are expert `n / 11`'s at every point `n` of its run. -/
theorem copy_at (c : Dev nD) (b : Fin 4) (r : Fin 512) (k : Fin 1024) : ∀ (n : ℕ) (h : n < cfg0.N),
    (outsAt0 m c n h).2.2 (ix3 b r k) = tok m c (ix4 b ⟨n / 11, (idx ⟨n, h⟩).2.2.2.2.2⟩ r k) := by
  intro n
  induction n with
  | zero =>
    intro h
    exact (copy_first m c ⟨0, h⟩ (Nat.zero_mod 11) (by show ¬(1 ≤ 0 % 11 ∧ 0 % 11 ≤ 9); decide) (by show ¬0 % 11 = 10; decide) _).trans (tokens_at m c ⟨0, h⟩ b r k)
  | succ n ih =>
    intro h
    by_cases h0 : (n + 1) % 11 = 0
    · exact (copy_first m c ⟨n + 1, h⟩ h0 (by show ¬(1 ≤ (n + 1) % 11 ∧ (n + 1) % 11 ≤ 9); omega) (by show ¬(n + 1) % 11 = 10; omega) _).trans (tokens_at m c ⟨n + 1, h⟩ b r k)
    · have e : (⟨n / 11, (idx ⟨n, Nat.lt_of_succ_lt h⟩).2.2.2.2.2⟩ : Fin 4) = ⟨(n + 1) / 11, (idx ⟨n + 1, h⟩).2.2.2.2.2⟩ :=
        Fin.ext (by show n / 11 = (n + 1) / 11; omega)
      rw [← e, ← ih (Nat.lt_of_succ_lt h)]
      by_cases h1 : 1 ≤ (n + 1) % 11 ∧ (n + 1) % 11 ≤ 9
      · exact congrFun (copy_step m c ⟨n + 1, h⟩ h0 h1 (by show ¬(n + 1) % 11 = 10; omega)) _
      · exact congrFun (copy_last m c ⟨n + 1, h⟩ h0 h1 (by show (n + 1) % 11 = 10; omega)) _

/-- After tile `f` (of the first ten) the running sum of expert `e` holds the shares of tiles `0 … f`. -/
theorem acc_at (c : Dev nD) (e : Fin 4) (b : Fin 4) (r : Fin 512) (l : Fin 1024) : ∀ (f : ℕ) (hf : f < 10) (h : 11 * e.val + f < cfg0.N),
    (outsAt0 m c (11 * e.val + f) h).2.1 (ix3 b r l) = ∑ g : Fin (f + 1), share m c b e r l g.val (by omega) := by
  intro f
  induction f with
  | zero =>
    intro hf h
    refine (acc_first m c ⟨11 * e.val + 0, h⟩ (by show (11 * e.val + 0) % 11 = 0; omega) (by show ¬(1 ≤ (11 * e.val + 0) % 11 ∧ _); omega) (by show ¬(11 * e.val + 0) % 11 = 10; omega) _).trans ?_
    refine (congrArg (fun x => tile x (iblk m c 1 ⟨11 * e.val + 0, h⟩) (iblk m c 2 ⟨11 * e.val + 0, h⟩) (iblk m c 3 ⟨11 * e.val + 0, h⟩) l)
      (funext fun k => tokens_at m c ⟨11 * e.val + 0, h⟩ b r k)).trans ?_
    refine (tile_at m c ⟨11 * e.val + 0, h⟩ b r l).trans ?_
    rw [Fin.sum_univ_one]
    congr 1
    · exact Fin.ext (by show (11 * e.val + 0) / 11 = e.val; omega)
    · show (11 * e.val + 0) % 11 = 0; omega
  | succ f ih =>
    intro hf h
    have hlt : 11 * e.val + f < cfg0.N := Nat.lt_of_succ_lt h
    refine (acc_step m c ⟨11 * e.val + (f + 1), h⟩ (by show ¬(11 * e.val + (f + 1)) % 11 = 0; omega) (by show 1 ≤ (11 * e.val + (f + 1)) % 11 ∧ (11 * e.val + (f + 1)) % 11 ≤ 9; omega) (by show ¬(11 * e.val + (f + 1)) % 11 = 10; omega) _).trans ?_
    rw [Fin.sum_univ_castSucc]
    refine Ideal.add_congr (ih (by omega) hlt) ?_
    refine (congrArg (fun x => tile x (iblk m c 1 ⟨11 * e.val + (f + 1), h⟩) (iblk m c 2 ⟨11 * e.val + (f + 1), h⟩) (iblk m c 3 ⟨11 * e.val + (f + 1), h⟩) l)
      (funext fun k => (copy_at m c b r k (11 * e.val + f) hlt).trans (congrArg (fun q => tok m c (ix4 b q r k))
        (Fin.ext (by show (11 * e.val + f) / 11 = (11 * e.val + (f + 1)) / 11; omega) : _ = (⟨(11 * e.val + (f + 1)) / 11, (idx ⟨11 * e.val + (f + 1), h⟩).2.2.2.2.2⟩ : Fin 4))))).trans ?_
    refine (tile_at m c ⟨11 * e.val + (f + 1), h⟩ b r l).trans ?_
    congr 1
    · exact Fin.ext (by show (11 * e.val + (f + 1)) / 11 = e.val; omega)
    · show (11 * e.val + (f + 1)) % 11 = f + 1; omega

/-- The state after a point depends on the point's number alone. -/
theorem outs_congr (c : Dev nD) {p q : ℕ} (e : p = q) (hp : p < cfg0.N) (hq : q < cfg0.N) : outsAt0 m c p hp = outsAt0 m c q hq := by
  subst e; rfl

/-- The output block an expert's last point writes: the whole sum over the expert's hidden width. -/
theorem out_at (c : Dev nD) (t : Fin cfg0.N) (ht : t.val % 11 = 10) (b : Fin 4) (r : Fin 512) (l : Fin 1024) (z : Fin 1) :
    (outsAt0 m c t.val t.isLt).1 (ix4 b z r l)
      = entry (tok m c) (gate m c) (up m c) (down m c) b ⟨t.val / 11, (idx t).2.2.2.2.2⟩ r l := by
  have hlt : t.val - 1 < cfg0.N := Nat.lt_of_le_of_lt (Nat.sub_le _ _) t.isLt
  refine (out_last m c t (by omega) (by omega) ht _).trans ?_
  refine Eq.trans ?_ (sum_parts (fun k => tok m c (ix4 b ⟨t.val / 11, (idx t).2.2.2.2.2⟩ r k)) _ _ _)
  rw [Fin.sum_univ_castSucc]
  refine Ideal.add_congr ?_ ?_
  · have hp : t.val - 1 = 11 * (t.val / 11) + 9 := by omega
    have key := acc_at m c ⟨t.val / 11, (idx t).2.2.2.2.2⟩ b r l 9 (by decide) (lt_of_eq_of_lt hp.symm hlt)
    refine Eq.trans ?_ key
    exact congrArg (fun q => q.2.1 (ix3 b r l)) (outs_congr m c hp hlt _)
  · refine (congrArg (fun x => tile x (iblk m c 1 t) (iblk m c 2 t) (iblk m c 3 t) l)
      (funext fun k => (copy_at m c b r k (t.val - 1) hlt).trans (congrArg (fun q => tok m c (ix4 b q r k))
        (Fin.ext (by show (t.val - 1) / 11 = t.val / 11; omega) : _ = (⟨t.val / 11, (idx t).2.2.2.2.2⟩ : Fin 4))))).trans ?_
    refine (tile_at m c t b r l).trans ?_
    show share m c b _ r l (t.val % 11) _ = share m c b _ r l 10 _
    congr 1

/-- The result array after the run, entry by entry. -/
theorem result_eq (c : Dev nD) :
    (dats m 0 c).arrAt 4 cfg0.N = fun i => entry (tok m c) (gate m c) (up m c) (down m c) (i 0) (i 1) (i 2) (i 3) := by
  refine (dats m 0 c).arrAt_eq_of_covers 4 _ (by decide +kernel) fun t hf y => ?_
  blk_simp
  rw [after0_4]
  have ht : t.val % 11 = 10 := (flush0_4 t).mp hf
  obtain ⟨b, z, r, l, rfl⟩ : ∃ (b : Fin 4) (z : Fin 1) (r : Fin 512) (l : Fin 1024), y = ix4 b z r l := ⟨y 0, y 1, y 2, y 3, eq_ix4 y⟩
  refine (out_at m c t ht b r l z).trans ?_
  have hz := z.isLt
  congr 1 <;> (refine Fin.ext ?_; blk_simp [idx t] <;> try omega)

/-- The reference's result as a function of its arguments. -/
def REF (X : FVec Ideal S4x4x512x1024 .bf16) (Wg Wu : FVec Ideal S1x16x1024x2816 .f32) (Wd : FVec Ideal S1x16x2816x1024 .f32) :
    FVec Ideal S4x4x512x1024 .bf16 :=
  truncf .bf16 (transpose Cert.Reference3Ideal.S4x4x512x1024 [2, 0, 3, 1] (Host.dotGeneral Cert.Reference3Ideal.dot_S4x2816x1024_S4x4x512x2816_S4x1024x4x512_1_3_2_02_0_1 none (shapeCast _ (extractStridedSlice Cert.Reference3Ideal.S1x4x2816x1024 ![0, 0, 0, 0] Wd Cert.Reference3Ideal.Gen.slices_S1x16x2816x1024_S1x4x2816x1024_0_0_0_0) Cert.Reference3Ideal.Gen.shapeCasts_S1x4x2816x1024_S4x2816x1024) (mulf (mulf (transpose Cert.Reference3Ideal.S4x4x512x2816 [2, 0, 3, 1] (Host.dotGeneral Cert.Reference3Ideal.dot_S4x1024x2816_S4x4x512x1024_S4x2816x4x512_1_3_2_02_0_1 none (shapeCast _ (extractStridedSlice Cert.Reference3Ideal.S1x4x1024x2816 ![0, 0, 0, 0] Wg Cert.Reference3Ideal.Gen.slices_S1x16x1024x2816_S1x4x1024x2816_0_0_0_0) Cert.Reference3Ideal.Gen.shapeCasts_S1x4x1024x2816_S4x1024x2816) (extf .f32 X Cert.Reference3Ideal.Gen.bitsLt_bf16_f32)) Cert.Reference3Ideal.Gen.transposes_S4x2816x4x512_S4x4x512x2816_2_0_3_1) (Host.divf (broadcastInDim Cert.Reference3Ideal.S4x4x512x2816 ![] Cert.Reference3Ideal.Gen.bcast_S_S4x4x512x2816 (constant Cert.Reference3Ideal.S_ .f32 0x3F800000#32)) (addf (broadcastInDim Cert.Reference3Ideal.S4x4x512x2816 ![] Cert.Reference3Ideal.Gen.bcast_S_S4x4x512x2816 (constant Cert.Reference3Ideal.S_ .f32 0x3F800000#32)) (Host.exp (Host.negf (transpose Cert.Reference3Ideal.S4x4x512x2816 [2, 0, 3, 1] (Host.dotGeneral Cert.Reference3Ideal.dot_S4x1024x2816_S4x4x512x1024_S4x2816x4x512_1_3_2_02_0_1 none (shapeCast _ (extractStridedSlice Cert.Reference3Ideal.S1x4x1024x2816 ![0, 0, 0, 0] Wg Cert.Reference3Ideal.Gen.slices_S1x16x1024x2816_S1x4x1024x2816_0_0_0_0) Cert.Reference3Ideal.Gen.shapeCasts_S1x4x1024x2816_S4x1024x2816) (extf .f32 X Cert.Reference3Ideal.Gen.bitsLt_bf16_f32)) Cert.Reference3Ideal.Gen.transposes_S4x2816x4x512_S4x4x512x2816_2_0_3_1)))))) (transpose Cert.Reference3Ideal.S4x4x512x2816 [2, 0, 3, 1] (Host.dotGeneral Cert.Reference3Ideal.dot_S4x1024x2816_S4x4x512x1024_S4x2816x4x512_1_3_2_02_0_1 none (shapeCast _ (extractStridedSlice Cert.Reference3Ideal.S1x4x1024x2816 ![0, 0, 0, 0] Wu Cert.Reference3Ideal.Gen.slices_S1x16x1024x2816_S1x4x1024x2816_0_0_0_0) Cert.Reference3Ideal.Gen.shapeCasts_S1x4x1024x2816_S4x1024x2816) (extf .f32 X Cert.Reference3Ideal.Gen.bitsLt_bf16_f32)) Cert.Reference3Ideal.Gen.transposes_S4x2816x4x512_S4x4x512x2816_2_0_3_1))) Cert.Reference3Ideal.Gen.transposes_S4x1024x4x512_S4x4x512x1024_2_0_3_1) Cert.Reference3Ideal.Gen.bitsLt_bf16_f32

/-- The reference's result, entry by entry: its contractions have the weights on the left, and its sigmoid is written out. -/
theorem REF_at (X : FVec Ideal S4x4x512x1024 .bf16) (Wg Wu : FVec Ideal S1x16x1024x2816 .f32) (Wd : FVec Ideal S1x16x2816x1024 .f32)
    (b : Fin 4) (e : Fin 4) (r : Fin 512) (l : Fin 1024) :
    REF X Wg Wu Wd (ix4 b e r l) = entry X Wg Wu Wd b e r l := by
  pointwise [REF]
  unfold entry
  refine Finset.sum_congr rfl fun j _ => ?_
  rw [gated_eq, mul_comm]
  simp only [mul_comm (X _)]

end Cert.Kernel3Ideal.Ffn
-- ==== Proof.FfnClaims.lean ====
/- The claims about the two expert feed-forward calls. -/
module

public import proofs.«01_k».proof.Defs
public import proofs.«01_k».proof.Proof.FfnTwelveValue
public import proofs.«01_k».proof.Proof.FfnFourValue
public import proofs.«01_k».proof.Proof.Gen.Kernel2.Frame
public import proofs.«01_k».proof.Proof.Gen.Kernel3.Frame

@[expose] public section

set_option maxRecDepth 16384

noncomputable section

namespace Cert.Ffn

open Idealize.ShloMosaic Idealize.ShloMosaic.TcCoe Idealize.SL.Sem

/-- The two programs end with equal results: the kernel's array is the sum over each expert's whole hidden width, and so
    is the reference's composed term. -/
theorem algebraic_twelve : Cert.algebraic_Kernel2Ideal_Reference2Ideal := by
  intro m g m' g' _ hag
  refine ⟨fun c => (Cert.Kernel2Ideal.Gen.dats m 0 c).arrAt 4 Cert.Kernel2Ideal.cfg0.N, Cert.Kernel2Ideal.Value.run_blocks m g,
    (θ_run _ _ _).mono (fun _ h c => ⟨(h c).1.trans ?_, (h c).2⟩) (Cert.Reference2Ideal.Value.run m' g')⟩
  obtain ⟨e0, e1, e2, e3⟩ := hag c
  rw [e0, e1, e2, e3]
  refine Eq.trans ?_ (Cert.Kernel2Ideal.Ffn.result_eq m c).symm
  funext i
  rw [eq_ix4 i]
  exact Cert.Kernel2Ideal.Ffn.REF_at _ _ _ _ _ _ _ _

/-- The two programs end with equal results: the kernel's array is the sum over each expert's whole hidden width, and so
    is the reference's composed term. -/
theorem algebraic_four : Cert.algebraic_Kernel3Ideal_Reference3Ideal := by
  intro m g m' g' _ hag
  refine ⟨fun c => (Cert.Kernel3Ideal.Gen.dats m 0 c).arrAt 4 Cert.Kernel3Ideal.cfg0.N, Cert.Kernel3Ideal.Value.run_blocks m g,
    (θ_run _ _ _).mono (fun _ h c => ⟨(h c).1.trans ?_, (h c).2⟩) (Cert.Reference3Ideal.Value.run m' g')⟩
  obtain ⟨e0, e1, e2, e3⟩ := hag c
  rw [e0, e1, e2, e3]
  refine Eq.trans ?_ (Cert.Kernel3Ideal.Ffn.result_eq m c).symm
  funext i
  rw [eq_ix4 i]
  exact Cert.Kernel3Ideal.Ffn.REF_at _ _ _ _ _ _ _ _

end Cert.Ffn

end
-- ==== Proof.NaTerms.lean ====
/- The terms the neighbourhood attention computes from its blocks: scores, exponentials and outputs of each block of rows. -/
module

public import proofs.«01_k».proof.Proof.Gen.KernelIdeal.Skeleton
public import Idealize.ShloMosaic.Lib.VecWindow

@[expose] public section

set_option maxRecDepth 16384

noncomputable section

namespace Cert.Na

open Idealize.ShloMosaic Cert.KernelIdeal Cert.KernelIdeal.Gen
open VecWindow (window put)

variable {F : FTy → Type} [FloatOps F]

/-- What one grid point of the neighbourhood attention works from: the lane mask that tells the pair's two heads apart,
the context keys and values, the two lane counters, the query, key and value images, and the finished bias tables. -/
structure Inp (F : FTy → Type) where
  lo : IVec S256x128 1
  kc : FVec F S256x128 .bf16
  vc : FVec F S256x128 .bf16
  lanes : IVec S768x128 32
  lanes' : IVec S256x128 32
  q : Vec F S1x4096x128 .bf16
  k : Vec F S1x4096x128 .bf16
  v : Vec F S1x4096x128 .bf16
  bias : Vec F S1x3x2x256x768 .f32

/-- The image row where the twelve key rows of block `j` start, times the row length 64. -/
abbrev keyStart (j : Fin 16) : ℕ := 64 * min 52 (4 * j.val - 4)

/-- Which of the three bias tables block `j` uses: the first block, the last one, or any other. -/
abbrev pat (j : Fin 16) : ℕ := if j.val = 0 then 0 else if j.val = 15 then 2 else 1

/-- A block's query rows are inside the array. -/
theorem qInb (j : Fin 16) : ∀ a, (![0, 256 * j.val, 0] : Fin 3 → ℕ) a + S1x256x128.size a ≤ S1x4096x128.size a := by
  revert j; decide +kernel

/-- A block's key window is inside the array. -/
theorem kInb (j : Fin 16) : ∀ a, (![0, keyStart j, 0] : Fin 3 → ℕ) a + S1x768x128.size a ≤ S1x4096x128.size a := by
  revert j; decide +kernel

/-- A block's bias is inside the table. -/
theorem bInb (j : Fin 16) (h : Fin 2) :
    ∀ a, (![0, pat j, h.val, 0, 0] : Fin 5 → ℕ) a + S1x1x1x256x768.size a ≤ S1x3x2x256x768.size a := by
  revert j h; decide +kernel

/-- The 256 query (or result) tokens of block `j`. -/
def rows (x : Vec F S1x4096x128 .bf16) (j : Fin 16) : Vec F S1x256x128 .bf16 :=
  window x ![0, 256 * j.val, 0] S1x256x128.size (qInb j)

/-- The 768 key (or value) tokens that block `j` looks at. -/
def keys (x : Vec F S1x4096x128 .bf16) (j : Fin 16) : Vec F S1x768x128 .bf16 :=
  window x ![0, keyStart j, 0] S1x768x128.size (kInb j)

/-- The bias table of block `j` and head `h`. -/
def biasOf (x : Vec F S1x3x2x256x768 .f32) (j : Fin 16) (h : Fin 2) : Vec F S1x1x1x256x768 .f32 :=
  window x ![0, pat j, h.val, 0, 0] S1x1x1x256x768.size (bInb j h)

/-- The scores of block `j` against its image window, head by head. -/
def winScore (I : Inp F) (j : Fin 16) (h : Fin 2) : Vec F S1x1x256x768 .f32 :=
  if h.val = 0 then k0_pay53 (k0_pay52 I.lo (rows I.q j) (keys I.k j) (biasOf I.bias j h))
  else k0_pay56 I.lo (k0_pay49 (rows I.q j)) (k0_pay50 (keys I.k j)) (biasOf I.bias j h)

/-- The scores of block `j` against the context tokens, head by head. -/
def ctxScore (I : Inp F) (j : Fin 16) (h : Fin 2) : Vec F S1x1x256x256 .f32 :=
  if h.val = 0 then k0_pay54 I.kc (k0_pay51 I.lo (rows I.q j)) else k0_pay57 I.lo I.kc (k0_pay49 (rows I.q j))

/-- The exponentials of the window scores less their row's maximum. -/
def winExp (I : Inp F) (j : Fin 16) (h : Fin 2) : Vec F S1x1x256x768 .bf16 := k0_pay46 (winScore I j h) (ctxScore I j h)

/-- The exponentials of the context scores less their row's maximum. -/
def ctxExp (I : Inp F) (j : Fin 16) (h : Fin 2) : Vec F S1x1x256x256 .bf16 :=
  k0_pay48 (k0_pay47 (winScore I j h) (ctxScore I j h))

/-- The result tokens of block `j`: both heads' weighted values, each divided by its row's sum. -/
def outOf (I : Inp F) (j : Fin 16) : Vec F S1x256x128 .bf16 :=
  k0_pay35 I.lo I.vc I.lanes' (k0_pay32 (keys I.v j))
    (k0_pay33 I.vc I.lanes I.lanes' (keys I.v j) (winExp I j 0) (ctxExp I j 0)) (k0_pay34 I.lanes)
    (Scalar.ofBits .bf16 0x3F80#16) (winExp I j 1) (ctxExp I j 1)

/-- A half of a scratch buffer is inside it. -/
theorem slotInb (W : ℕ) (i h : Fin 2) :
    ∀ a, (![i.val, h.val, 0, 0] : Fin 4 → ℕ) a + (![1, 1, 256, W] : Fin 4 → ℕ) a ≤ (![2, 2, 256, W] : Fin 4 → ℕ) a := by
  intro a; fin_cases a <;> simp <;> omega

/-- What the buffers of a grid point hold before trip `n` of its loop: the exponentials of block `2n` in slot 0, the scores
of block `2n+1` in slot 1, and the results of all the blocks before `2n`. -/
structure LoopSt (I : Inp F) (n : ℕ) (o : Vec F S1x4096x128 .bf16) (sw : Vec F S2x2x256x768 .f32) (sc : Vec F S2x2x256x256 .f32)
    (pw : Vec F S2x2x256x768 .bf16) (pc : Vec F S2x2x256x256 .bf16) : Prop where
  ew : ∀ (j : Fin 16) (h : Fin 2), j.val = 2 * n → window pw ![0, h.val, 0, 0] S1x1x256x768.size (slotInb 768 0 h) = winExp I j h
  ec : ∀ (j : Fin 16) (h : Fin 2), j.val = 2 * n → window pc ![0, h.val, 0, 0] S1x1x256x256.size (slotInb 256 0 h) = ctxExp I j h
  sw : ∀ (j : Fin 16) (h : Fin 2), j.val = 2 * n + 1 → window sw ![1, h.val, 0, 0] S1x1x256x768.size (slotInb 768 1 h) = winScore I j h
  sc : ∀ (j : Fin 16) (h : Fin 2), j.val = 2 * n + 1 → window sc ![1, h.val, 0, 0] S1x1x256x256.size (slotInb 256 1 h) = ctxScore I j h
  out : ∀ j : Fin 16, j.val < 2 * n → rows o j = outOf I j

end Cert.Na

end
end
-- ==== Proof.NaSlots.lean ====
/- Reading and writing the two halves of a scratch buffer that takes turns. -/
module

public import Idealize.ShloMosaic.Lib.VecWindow
public import Idealize.ShloMosaic.Lib.Exec

@[expose] public section

namespace Cert.Na

open Idealize.ShloMosaic
open VecWindow (window put)

variable {sig : RefSig} {κ : Kind} {sp : Space} {s : Shape} {e : EltTy} {Val : EltTy → Type}

/-- A window read where the newest store went is that store's payload. -/
theorem window_hit (v : View sig κ sp s e) (f : v.ty.Contents Val) {off size : Fin s.rank → ℕ} (inb inb' : ∀ a, off a + size a ≤ s.size a)
    (w : (Rect.unit off size inb).shape.Idx → Val e) (L : List (View.Piece Val s e)) :
    window (v.read Val (v.writes Val f (⟨Rect.unit off size inb, w⟩ :: L))) off size inb' = w := by
  rw [View.read_writes_cons_put v f inb w L rfl]
  exact VecWindow.window_put_same _ _ _ _ _

/-- The same at a window offset that is equal to the store's. -/
theorem window_hit_at (v : View sig κ sp s e) (f : v.ty.Contents Val) {off off' size : Fin s.rank → ℕ} (inb : ∀ a, off a + size a ≤ s.size a)
    (inb' : ∀ a, off' a + size a ≤ s.size a) (w : (Rect.unit off size inb).shape.Idx → Val e) (L : List (View.Piece Val s e))
    (ho : off = off') : window (v.read Val (v.writes Val f (⟨Rect.unit off size inb, w⟩ :: L))) off' size inb' = w := by
  subst ho
  exact window_hit v f inb inb' w L

/-- A window apart from the newest store, on the axis named, reads what the earlier stores left. -/
theorem window_miss (v : View sig κ sp s e) (f : v.ty.Contents Val) {off off₂ size off' size' : Fin s.rank → ℕ} (inb : ∀ a, off a + size a ≤ s.size a)
    (inb' : ∀ a, off' a + size' a ≤ s.size a)
    (w : (Rect.unit off size inb).shape.Idx → Val e) (L : List (View.Piece Val s e)) (ho : off = off₂) (a : Fin s.rank)
    (ha : off' a + size' a ≤ off₂ a ∨ off₂ a + size a ≤ off' a) :
    window (v.read Val (v.writes Val f (⟨Rect.unit off size inb, w⟩ :: L))) off' size' inb'
      = window (v.read Val (v.writes Val f L)) off' size' inb' := by
  subst ho
  rw [View.read_writes_cons_put v f inb w L rfl]
  exact VecWindow.window_put_of_disjoint _ _ _ _ _ _ _ a ha

/-- A load where the newest of the stores since went reads that store's payload. -/
theorem load_hit [∀ e, Nonempty (Val e)] (v : View sig κ sp s e) {off size : Fin s.rank → ℕ} (inb inb' : ∀ a, off a + size a ≤ s.size a)
    (w : (Rect.unit off size inb).shape.Idx → Val e) (L : List (View.Piece Val s e)) :
    v.readCov (⟨Rect.unit off size inb, w⟩ :: L) (Rect.unit off size inb').toLoadRect = w :=
  window_hit v _ inb inb' w L

/-- A load apart from the newest store, on the axis named, reads what the earlier stores left. -/
theorem load_miss [∀ e, Nonempty (Val e)] (v : View sig κ sp s e) {off size off' size' : Fin s.rank → ℕ} (inb : ∀ a, off a + size a ≤ s.size a)
    (inb' : ∀ a, off' a + size' a ≤ s.size a)
    (w : (Rect.unit off size inb).shape.Idx → Val e) (L : List (View.Piece Val s e)) (a : Fin s.rank)
    (ha : off' a + size' a ≤ off a ∨ off a + size a ≤ off' a) :
    v.readCov (⟨Rect.unit off size inb, w⟩ :: L) (Rect.unit off' size' inb').toLoadRect
      = v.readCov L (Rect.unit off' size' inb').toLoadRect :=
  window_miss v _ inb inb' w L rfl a ha

end Cert.Na

end
-- ==== Proof.NaLoop.lean ====
/- The pipelined loop of the neighbourhood attention: what its buffers hold between two trips. -/
module

public import proofs.«01_k».proof.Proof.NaTerms
public import proofs.«01_k».proof.Proof.NaSlots
public import Idealize.ShloMosaic.Lib.Exec
public import Idealize.ShloMosaic.Lib.Tactic
public import Idealize.ShloMosaic.Lib.Pipeline.Kit

@[expose] public section

set_option maxRecDepth 16384
set_option maxHeartbeats 2000000

noncomputable section

namespace Cert.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow (window put)

variable {F : FTy → Type} [FloatOps F]

local notation "𝕄N" => MT nD τ sig Unit (Elt F) ℕ (UR sig nD τ) ℕ

/-- The nine buffers a trip touches, with what they hold. -/
abbrev Held (c : Dev nD) (arg2 : Memref sig .tc .vmem S1x4096x128 .bf16) (arg3 : Memref sig .tc .vmem S1x4096x128 .bf16) (arg4 : Memref sig .tc .vmem S1x4096x128 .bf16) (arg9 : Memref sig .tc .vmem S1x4096x128 .bf16) (arg10 : Memref sig .tc .vmem S1x3x2x256x768 .f32) (arg11 : Memref sig .tc .vmem S2x2x256x768 .f32) (arg12 : Memref sig .tc .vmem S2x2x256x256 .f32) (arg13 : Memref sig .tc .vmem S2x2x256x768 .bf16) (arg14 : Memref sig .tc .vmem S2x2x256x256 .bf16) (f2 : BufTy.Contents (Elt F) arg2.view.ty) (f3 : BufTy.Contents (Elt F) arg3.view.ty) (f4 : BufTy.Contents (Elt F) arg4.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) : sProp 𝕄N :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg10.view.loc (c : Thread nD τ) ↦[arg10.view.set]{fullShare} f10) ∗ (arg9.view.loc (c : Thread nD τ) ↦[arg9.view.set]{fullShare} f9) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

/-- A load of block `j`'s query rows. -/
theorem rows_at (v : View sig .tc .vmem S1x4096x128 .bf16) (f : BufTy.Contents (Elt F) v.ty) (off : Fin 3 → ℕ)
    (inb : ∀ a, off a + S1x256x128.size a ≤ S1x4096x128.size a) (j : Fin 16) (h : off = ![0, 256 * j.val, 0]) :
    v.readAt (Elt F) (Rect.unit (s := S1x4096x128) off S1x256x128.size inb).toLoadRect f = rows (v.read (Elt F) f) j := by
  subst h; rfl

/-- A load of block `j`'s key (or value) rows. -/
theorem keys_at (v : View sig .tc .vmem S1x4096x128 .bf16) (f : BufTy.Contents (Elt F) v.ty) (off : Fin 3 → ℕ)
    (inb : ∀ a, off a + S1x768x128.size a ≤ S1x4096x128.size a) (j : Fin 16) (h : off = ![0, keyStart j, 0]) :
    v.readAt (Elt F) (Rect.unit (s := S1x4096x128) off S1x768x128.size inb).toLoadRect f = keys (v.read (Elt F) f) j := by
  subst h; rfl

/-- A load of block `j`'s bias table for head `h`. -/
theorem bias_at (v : View sig .tc .vmem S1x3x2x256x768 .f32) (f : BufTy.Contents (Elt F) v.ty) (off : Fin 5 → ℕ)
    (inb : ∀ a, off a + S1x1x1x256x768.size a ≤ S1x3x2x256x768.size a) (j : Fin 16) (h : Fin 2) (e : off = ![0, pat j, h.val, 0, 0]) :
    v.readAt (Elt F) (Rect.unit (s := S1x3x2x256x768) off S1x1x1x256x768.size inb).toLoadRect f = biasOf (v.read (Elt F) f) j h := by
  subst e; rfl

/-- The first head's window scores, from the loads. -/
theorem winScore_zero (I : Inp F) (j : Fin 16) {lo : IVec S256x128 1} {q : Vec F S1x256x128 .bf16} {k : Vec F S1x768x128 .bf16} {b : Vec F S1x1x1x256x768 .f32}
    (hl : lo = I.lo) (hq : q = rows I.q j) (hk : k = keys I.k j) (hb : b = biasOf I.bias j 0) : k0_pay53 (k0_pay52 lo q k b) = winScore I j 0 := by
  subst hl hq hk hb; rfl

/-- The second head's window scores, from the loads. -/
theorem winScore_one (I : Inp F) (j : Fin 16) {lo : IVec S256x128 1} {q : Vec F S1x256x128 .bf16} {k : Vec F S1x768x128 .bf16} {b : Vec F S1x1x1x256x768 .f32}
    (hl : lo = I.lo) (hq : q = rows I.q j) (hk : k = keys I.k j) (hb : b = biasOf I.bias j 1) :
    k0_pay56 lo (k0_pay49 q) (k0_pay50 k) b = winScore I j 1 := by
  subst hl hq hk hb; rfl

/-- The first head's context scores, from the load. -/
theorem ctxScore_zero (I : Inp F) (j : Fin 16) {lo : IVec S256x128 1} {kc : FVec F S256x128 .bf16} {q : Vec F S1x256x128 .bf16}
    (hl : lo = I.lo) (hc : kc = I.kc) (hq : q = rows I.q j) :
    k0_pay54 kc (k0_pay51 lo q) = ctxScore I j 0 := by
  subst hl hc hq; rfl

/-- The second head's context scores, from the load. -/
theorem ctxScore_one (I : Inp F) (j : Fin 16) {lo : IVec S256x128 1} {kc : FVec F S256x128 .bf16} {q : Vec F S1x256x128 .bf16}
    (hl : lo = I.lo) (hc : kc = I.kc) (hq : q = rows I.q j) :
    k0_pay57 lo kc (k0_pay49 q) = ctxScore I j 1 := by
  subst hl hc hq; rfl

/-- A block's results, from the loads. -/
theorem outOf_eq (I : Inp F) (j : Fin 16) {lo : IVec S256x128 1} {vc : FVec F S256x128 .bf16} {l : IVec S768x128 32} {l' : IVec S256x128 32}
    {v : Vec F S1x768x128 .bf16} {p p' : Vec F S1x1x256x768 .bf16} {r r' : Vec F S1x1x256x256 .bf16}
    (hl : lo = I.lo) (hc : vc = I.vc) (hi : l = I.lanes) (hi' : l' = I.lanes')
    (hv : v = keys I.v j) (hp : p = winExp I j 0) (hr : r = ctxExp I j 0) (hp' : p' = winExp I j 1) (hr' : r' = ctxExp I j 1) :
    k0_pay35 lo vc l' (k0_pay32 v) (k0_pay33 vc l l' v p r) (k0_pay34 l)
      (Scalar.ofBits .bf16 0x3F80#16) p' r' = outOf I j := by
  subst hl hc hi hi' hv hp hr hp' hr'; rfl

/-- The rows of block `j` where the newest store went. -/
theorem rows_hit (v : View sig .tc .vmem S1x4096x128 .bf16) (f : BufTy.Contents (Elt F) v.ty) (off : Fin 3 → ℕ)
    (inb : ∀ a, off a + S1x256x128.size a ≤ S1x4096x128.size a) (w : Vec F S1x256x128 .bf16) (L : List (View.Piece (Elt F) S1x4096x128 .bf16))
    (j : Fin 16) (ho : off = ![0, 256 * j.val, 0]) :
    rows (v.read (Elt F) (v.writes (Elt F) f (⟨Rect.unit (s := S1x4096x128) off S1x256x128.size inb, w⟩ :: L))) j = w :=
  window_hit_at (s := S1x4096x128) v f inb (qInb j) w L ho

/-- The rows of another block than the newest store's. -/
theorem rows_miss (v : View sig .tc .vmem S1x4096x128 .bf16) (f : BufTy.Contents (Elt F) v.ty) (off : Fin 3 → ℕ)
    (inb : ∀ a, off a + S1x256x128.size a ≤ S1x4096x128.size a) (w : Vec F S1x256x128 .bf16) (L : List (View.Piece (Elt F) S1x4096x128 .bf16))
    (j j' : Fin 16) (ho : off = ![0, 256 * j'.val, 0]) (hne : j ≠ j') :
    rows (v.read (Elt F) (v.writes (Elt F) f (⟨Rect.unit (s := S1x4096x128) off S1x256x128.size inb, w⟩ :: L))) j
      = rows (v.read (Elt F) (v.writes (Elt F) f L)) j := by
  have h : j.val ≠ j'.val := fun h => hne (Fin.ext h)
  refine window_miss (s := S1x4096x128) v f inb (qInb j) w L ho 1 ?_
  show 256 * j.val + 256 ≤ 256 * j'.val ∨ 256 * j'.val + 256 ≤ 256 * j.val
  omega

/-! The body names the same steps apart each time it takes them; these are the equal names. -/

/-- One printed spelling of the exponentials of the window scores is the plain one. -/
theorem expW_a (s : Vec F S1x1x256x768 .f32) (c : Vec F S1x1x256x256 .f32) :
    k0_pay41 (k0_pay36 s) (k0_pay38 s) (k0_pay39 c) = k0_pay46 s c := rfl

/-- One printed spelling of the exponentials of the context scores is the plain one. -/
theorem expC_a (s : Vec F S1x1x256x768 .f32) (c : Vec F S1x1x256x256 .f32) :
    k0_pay42 (k0_pay37 c) (k0_pay38 s) (k0_pay39 c) = k0_pay48 (k0_pay47 s c) := rfl

/-- One printed spelling of the exponentials of the window scores is the plain one. -/
theorem expW_b (s : Vec F S1x1x256x768 .f32) (c : Vec F S1x1x256x256 .f32) :
    k0_pay67 s c = k0_pay46 s c := rfl

/-- One printed spelling of the exponentials of the context scores is the plain one. -/
theorem expC_b (s : Vec F S1x1x256x768 .f32) (c : Vec F S1x1x256x256 .f32) :
    k0_pay68 (k0_pay65 c) (k0_pay66 s c) = k0_pay48 (k0_pay47 s c) := rfl

/-- One printed spelling of the exponentials of the window scores is the plain one. -/
theorem expW_c (s : Vec F S1x1x256x768 .f32) (c : Vec F S1x1x256x256 .f32) :
    k0_pay72 s c = k0_pay46 s c := rfl

/-- One printed spelling of the exponentials of the context scores is the plain one. -/
theorem expC_c (s : Vec F S1x1x256x768 .f32) (c : Vec F S1x1x256x256 .f32) :
    k0_pay73 s c = k0_pay48 (k0_pay47 s c) := rfl

/-- One printed spelling of the window scores is the plain one. -/
theorem scoreW_a (lo : IVec S256x128 1) (q : Vec F S1x256x128 .bf16) (k : Vec F S1x768x128 .bf16) (b : Vec F S1x1x1x256x768 .f32) :
    k0_pay77 lo q k b = k0_pay53 (k0_pay52 lo q k b) := rfl

/-- One printed spelling of the window scores is the plain one. -/
theorem scoreW_b (lo : IVec S256x128 1) (q : Vec F S1x256x128 .bf16) (k : Vec F S1x768x128 .bf16) (b : Vec F S1x1x1x256x768 .f32) :
    k0_pay113 lo (k0_pay74 q) (k0_pay75 k) b = k0_pay56 lo (k0_pay49 q) (k0_pay50 k) b := rfl

/-- One printed spelling of the context scores is the plain one. -/
theorem scoreC_a (lo : IVec S256x128 1) (kc : FVec F S256x128 .bf16) (q : Vec F S1x256x128 .bf16) :
    k0_pay111 (k0_pay78 lo kc q) = k0_pay54 kc (k0_pay51 lo q) := rfl

/-- One printed spelling of the context scores is the plain one. -/
theorem scoreC_b (lo : IVec S256x128 1) (kc : FVec F S256x128 .bf16) (q : Vec F S1x256x128 .bf16) :
    k0_pay114 lo kc (k0_pay74 q) = k0_pay57 lo kc (k0_pay49 q) := rfl

/-- One printed spelling of the output rows is the plain one. -/
theorem outOf_a (lo : IVec S256x128 1) (vc : FVec F S256x128 .bf16) (l : IVec S768x128 32) (l' : IVec S256x128 32) (v : Vec F S1x768x128 .bf16)
    (p p' : Vec F S1x1x256x768 .bf16) (r r' : Vec F S1x1x256x256 .bf16) :
    k0_pay63 lo (k0_pay59 vc l l' v p r) (k0_pay60 l v) (k0_pay61 vc l') (k0_pay62 p') r' = k0_pay35 lo vc l' (k0_pay32 v) (k0_pay33 vc l l' v p r) (k0_pay34 l) (Scalar.ofBits .bf16 0x3F80#16) p' r' := rfl

/-- The key window of the block two before this trip. -/
theorem off4_two : ∀ (k : Fin k0_t1_loop.trips) (j : Fin 16), j.val = 2 * k.val → k0_off4 k 2#32 = ![0, keyStart j, 0] := by decide +kernel

/-- The key window of the block one before this trip. -/
theorem off4_one : ∀ (k : Fin k0_t1_loop.trips) (j : Fin 16), j.val = 2 * k.val + 1 → k0_off4 k 1#32 = ![0, keyStart j, 0] := by
  decide +kernel

/-- The output rows of the block two before this trip. -/
theorem off5_two : ∀ (k : Fin k0_t1_loop.trips) (j : Fin 16), j.val = 2 * k.val → k0_off5 k 2#32 = ![0, 256 * j.val, 0] := by decide +kernel

/-- The output rows of the block one before this trip. -/
theorem off5_one : ∀ (k : Fin k0_t1_loop.trips) (j : Fin 16), j.val = 2 * k.val + 1 → k0_off5 k 1#32 = ![0, 256 * j.val, 0] := by
  decide +kernel

/-- The query rows of this trip's first block. -/
theorem off6_at : ∀ (k : Fin k0_t1_loop.trips) (j : Fin 16), j.val = 2 * (k.val + 1) → k0_off6 k = ![0, 256 * j.val, 0] := by decide +kernel

/-- The key window of this trip's first block. -/
theorem off7_at : ∀ (k : Fin k0_t1_loop.trips) (j : Fin 16), j.val = 2 * (k.val + 1) → k0_off7 k = ![0, keyStart j, 0] := by decide +kernel

/-- The first head's bias of this trip's first block. -/
theorem off8_at : ∀ (k : Fin k0_t1_loop.trips) (j : Fin 16), j.val = 2 * (k.val + 1) → k0_off8 k = ![0, pat j, (0 : Fin 2).val, 0, 0] := by
  decide +kernel

/-- The second head's bias of this trip's first block. -/
theorem off9_at : ∀ (k : Fin k0_t1_loop.trips) (j : Fin 16), j.val = 2 * (k.val + 1) → k0_off9 k = ![0, pat j, (1 : Fin 2).val, 0, 0] := by
  decide +kernel

/-- The query rows of this trip's second block. -/
theorem off10_at : ∀ (k : Fin k0_t1_loop.trips) (j : Fin 16), j.val = 2 * (k.val + 1) + 1 → k0_off10 k = ![0, 256 * j.val, 0] := by
  decide +kernel

/-- The key window of this trip's second block. -/
theorem off11_at : ∀ (k : Fin k0_t1_loop.trips) (j : Fin 16), j.val = 2 * (k.val + 1) + 1 → k0_off11 k = ![0, keyStart j, 0] := by
  decide +kernel

/-- The first head's bias of this trip's second block. -/
theorem off12_at : ∀ (k : Fin k0_t1_loop.trips) (j : Fin 16), j.val = 2 * (k.val + 1) + 1 → k0_off12 k = ![0, pat j, (0 : Fin 2).val, 0, 0] := by
  decide +kernel

/-- The second head's bias of this trip's second block. -/
theorem off13_at : ∀ (k : Fin k0_t1_loop.trips) (j : Fin 16), j.val = 2 * (k.val + 1) + 1 → k0_off13 k = ![0, pat j, (1 : Fin 2).val, 0, 0] := by
  decide +kernel

section
variable (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S2x2x64x1536 .f32) (harg7 : arg7.IsWhole) (arg8 : Memref sig .tc .vmem S3x4x1x768 .f32) (harg8 : arg8.IsWhole) (arg9 : Memref sig .tc .vmem S1x4096x128 .bf16) (harg9 : arg9.IsWhole) (arg10 : Memref sig .tc .vmem S1x3x2x256x768 .f32) (harg10 : arg10.IsWhole) (arg11 : Memref sig .tc .vmem S2x2x256x768 .f32) (harg11 : arg11.IsWhole) (arg12 : Memref sig .tc .vmem S2x2x256x256 .f32) (harg12 : arg12.IsWhole) (arg13 : Memref sig .tc .vmem S2x2x256x768 .bf16) (harg13 : arg13.IsWhole) (arg14 : Memref sig .tc .vmem S2x2x256x256 .bf16) (harg14 : arg14.IsWhole)
  (v2 : IVec S256x128 1) (v4 : FVec F S256x128 .bf16) (v6 : FVec F S256x128 .bf16) (v7 : IVec S768x128 32) (v8 : IVec S256x128 32)
  (c1_i32_125 : BitVec 32) (c7_i32 : BitVec 32)
  (X2 : BufTy.Contents (Elt F) arg2.view.ty) (X3 : BufTy.Contents (Elt F) arg3.view.ty) (X4 : BufTy.Contents (Elt F) arg4.view.ty) (X10 : BufTy.Contents (Elt F) arg10.view.ty)

/-- What a grid point works from, read off the buffers its loop only loads. -/
abbrev inpOf : Inp F :=
  ⟨v2, v4, v6, v7, v8, arg2.view.read (Elt F) X2, arg3.view.read (Elt F) X3, arg4.view.read (Elt F) X4, arg10.view.read (Elt F) X10⟩

/-- One trip of the loop takes what the buffers hold before it to what they hold before the next. -/
theorem trip (k : Fin k0_t1_loop.trips) (E : Set ℕ) (f9 : BufTy.Contents (Elt F) arg9.view.ty) (f11 : BufTy.Contents (Elt F) arg11.view.ty) (f12 : BufTy.Contents (Elt F) arg12.view.ty) (f13 : BufTy.Contents (Elt F) arg13.view.ty) (f14 : BufTy.Contents (Elt F) arg14.view.ty)
    (hst : LoopSt (inpOf arg2 arg3 arg4 arg10 v2 v4 v6 v7 v8 X2 X3 X4 X10) k.val (arg9.view.read (Elt F) f9) (arg11.view.read (Elt F) f11)
      (arg12.view.read (Elt F) f12) (arg13.view.read (Elt F) f13) (arg14.view.read (Elt F) f14)) :
    Held c arg2 arg3 arg4 arg9 arg10 arg11 arg12 arg13 arg14 X2 X3 X4 f9 X10 f11 f12 f13 f14
    ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg12 harg12 arg13 harg13 arg14 harg14 v2 v4 v6 v7 v8 c1_i32_125 c7_i32 k PUnit.unit)
        (fun _ => iprop(∃ g9 g11 g12 g13 g14, Held c arg2 arg3 arg4 arg9 arg10 arg11 arg12 arg13 arg14 X2 X3 X4 g9 X10 g11 g12 g13 g14
          ∗ ⌜LoopSt (inpOf arg2 arg3 arg4 arg10 v2 v4 v6 v7 v8 X2 X3 X4 X10) (k.val + 1) (arg9.view.read (Elt F) g9)
              (arg11.view.read (Elt F) g11) (arg12.view.read (Elt F) g12) (arg13.view.read (Elt F) g13) (arg14.view.read (Elt F) g14)⌝)) := by
  have hk : k.val < 7 := Nat.lt_of_lt_of_le k.isLt k0_t1_abs.2.1
  unfold k0_t1_body
  iintro ⟨H2, H3, H4, H10, H9, H11, H12, H13, H14⟩
  sl_exec
  sl_step
  iexists _, _, _, _, _
  isplitl [H2 H3 H4 H10 H9 H11 H12 H13 H14]
  · isplitl [H2]; · iexact H2
    isplitl [H3]; · iexact H3
    isplitl [H4]; · iexact H4
    isplitl [H10]; · iexact H10
    isplitl [H9]; · iexact H9
    isplitl [H11]; · iexact H11
    isplitl [H12]; · iexact H12
    isplitl [H13]; · iexact H13
    iexact H14
  ipureintro
  refine ⟨fun j h hj => ?_, fun j h hj => ?_, fun j h hj => ?_, fun j h hj => ?_, fun j hj => ?_⟩
  · obtain rfl | rfl : h = 0 ∨ h = 1 := by omega
    · refine (window_miss _ _ _ _ _ _ rfl 1 (by decide)).trans ((window_hit _ _ _ _ _ _).trans ((expW_b _ _).trans (congrArg₂ k0_pay46 ?_ ?_)))
      · exact (load_miss _ _ _ _ _ 1 (by decide)).trans ((load_hit _ _ _ _ _).trans (winScore_zero
          (inpOf arg2 arg3 arg4 arg10 v2 v4 v6 v7 v8 X2 X3 X4 X10) j rfl (rows_at _ _ _ _ _ (off6_at k j hj))
          (keys_at _ _ _ _ _ (off7_at k j hj)) (bias_at _ _ _ _ _ _ (off8_at k j hj))))
      · exact (load_miss _ _ _ _ _ 1 (by decide)).trans ((load_hit _ _ _ _ _).trans (ctxScore_zero
          (inpOf arg2 arg3 arg4 arg10 v2 v4 v6 v7 v8 X2 X3 X4 X10) j rfl rfl (rows_at _ _ _ _ _ (off6_at k j hj))))
    · refine (window_hit _ _ _ _ _ _).trans ((expW_c _ _).trans (congrArg₂ k0_pay46 ?_ ?_))
      · exact (load_hit _ _ _ _ _).trans (winScore_one (inpOf arg2 arg3 arg4 arg10 v2 v4 v6 v7 v8 X2 X3 X4 X10) j rfl
          (rows_at _ _ _ _ _ (off6_at k j hj)) (keys_at _ _ _ _ _ (off7_at k j hj)) (bias_at _ _ _ _ _ _ (off9_at k j hj)))
      · exact (load_hit _ _ _ _ _).trans (ctxScore_one (inpOf arg2 arg3 arg4 arg10 v2 v4 v6 v7 v8 X2 X3 X4 X10) j rfl rfl
          (rows_at _ _ _ _ _ (off6_at k j hj)))
  · obtain rfl | rfl : h = 0 ∨ h = 1 := by omega
    · refine (window_miss _ _ _ _ _ _ rfl 1 (by decide)).trans ((window_hit _ _ _ _ _ _).trans ?_)
      unfold trip.sl.r_14 trip.sl.r_15
      refine (expC_b _ _).trans (congrArg₂ (fun s c => k0_pay48 (k0_pay47 s c)) ?_ ?_)
      · exact (load_miss _ _ _ _ _ 1 (by decide)).trans ((load_hit _ _ _ _ _).trans (winScore_zero
          (inpOf arg2 arg3 arg4 arg10 v2 v4 v6 v7 v8 X2 X3 X4 X10) j rfl (rows_at _ _ _ _ _ (off6_at k j hj))
          (keys_at _ _ _ _ _ (off7_at k j hj)) (bias_at _ _ _ _ _ _ (off8_at k j hj))))
      · exact (load_miss _ _ _ _ _ 1 (by decide)).trans ((load_hit _ _ _ _ _).trans (ctxScore_zero
          (inpOf arg2 arg3 arg4 arg10 v2 v4 v6 v7 v8 X2 X3 X4 X10) j rfl rfl (rows_at _ _ _ _ _ (off6_at k j hj))))
    · refine (window_hit _ _ _ _ _ _).trans ((expC_c _ _).trans (congrArg₂ (fun s c => k0_pay48 (k0_pay47 s c)) ?_ ?_))
      · exact (load_hit _ _ _ _ _).trans (winScore_one (inpOf arg2 arg3 arg4 arg10 v2 v4 v6 v7 v8 X2 X3 X4 X10) j rfl
          (rows_at _ _ _ _ _ (off6_at k j hj)) (keys_at _ _ _ _ _ (off7_at k j hj)) (bias_at _ _ _ _ _ _ (off9_at k j hj)))
      · exact (load_hit _ _ _ _ _).trans (ctxScore_one (inpOf arg2 arg3 arg4 arg10 v2 v4 v6 v7 v8 X2 X3 X4 X10) j rfl rfl
          (rows_at _ _ _ _ _ (off6_at k j hj)))
  · obtain rfl | rfl : h = 0 ∨ h = 1 := by omega
    · refine (window_miss _ _ _ _ _ _ rfl 1 (by decide)).trans ((window_hit _ _ _ _ _ _).trans ((scoreW_a _ _ _ _).trans ?_))
      exact winScore_zero (inpOf arg2 arg3 arg4 arg10 v2 v4 v6 v7 v8 X2 X3 X4 X10) j rfl (rows_at _ _ _ _ _ (off10_at k j hj))
          (keys_at _ _ _ _ _ (off11_at k j hj)) (bias_at _ _ _ _ _ _ (off12_at k j hj))
    · refine (window_hit _ _ _ _ _ _).trans ?_
      unfold trip.sl.r_16 trip.sl.r_17
      exact (scoreW_b _ _ _ _).trans (winScore_one (inpOf arg2 arg3 arg4 arg10 v2 v4 v6 v7 v8 X2 X3 X4 X10) j rfl
        (rows_at _ _ _ _ _ (off10_at k j hj)) (keys_at _ _ _ _ _ (off11_at k j hj)) (bias_at _ _ _ _ _ _ (off13_at k j hj)))
  · obtain rfl | rfl : h = 0 ∨ h = 1 := by omega
    · refine (window_miss _ _ _ _ _ _ rfl 1 (by decide)).trans ((window_hit _ _ _ _ _ _).trans ?_)
      unfold trip.sl.r_18
      exact (scoreC_a _ _ _).trans (ctxScore_zero (inpOf arg2 arg3 arg4 arg10 v2 v4 v6 v7 v8 X2 X3 X4 X10) j rfl rfl
        (rows_at _ _ _ _ _ (off10_at k j hj)))
    · refine (window_hit _ _ _ _ _ _).trans ?_
      unfold trip.sl.r_16
      exact (scoreC_b _ _ _).trans (ctxScore_one (inpOf arg2 arg3 arg4 arg10 v2 v4 v6 v7 v8 X2 X3 X4 X10) j rfl rfl
        (rows_at _ _ _ _ _ (off10_at k j hj)))
  · obtain hj' | hj' | hj' : j.val = 2 * k.val + 1 ∨ j.val = 2 * k.val ∨ j.val < 2 * k.val := by omega
    · refine (rows_hit _ _ _ _ _ _ _ (off5_one k j hj')).trans ?_
      unfold trip.sl.r_11 trip.sl.r_12 trip.sl.r_13
      refine (outOf_a _ _ _ _ _ _ _ _ _).trans (outOf_eq (inpOf arg2 arg3 arg4 arg10 v2 v4 v6 v7 v8 X2 X3 X4 X10) j rfl rfl rfl rfl
        (keys_at _ _ _ _ _ (off4_one k j hj')) ?_ ?_ ?_ ?_)
      · refine (load_miss _ _ _ _ _ 1 (by decide)).trans ((load_hit _ _ _ _ _).trans ?_)
        unfold trip.sl.r_2 trip.sl.r_4 trip.sl.r_5
        exact (expW_a _ _).trans (congrArg₂ k0_pay46 (hst.sw j 0 hj') (hst.sc j 0 hj'))
      · refine (load_miss _ _ _ _ _ 1 (by decide)).trans ((load_hit _ _ _ _ _).trans ?_)
        unfold trip.sl.r_3 trip.sl.r_4 trip.sl.r_5
        exact (expC_a _ _).trans (congrArg₂ (fun s c => k0_pay48 (k0_pay47 s c)) (hst.sw j 0 hj') (hst.sc j 0 hj'))
      · exact (load_hit _ _ _ _ _).trans (congrArg₂ k0_pay46 (hst.sw j 1 hj') (hst.sc j 1 hj'))
      · exact (load_hit _ _ _ _ _).trans (congrArg₂ (fun s c => k0_pay48 (k0_pay47 s c)) (hst.sw j 1 hj') (hst.sc j 1 hj'))
    · refine (rows_miss _ _ _ _ _ _ _ ⟨2 * k.val + 1, by omega⟩ (off5_one k _ rfl) (fun h => by rw [h] at hj'; simp at hj')).trans
        ((rows_hit _ _ _ _ _ _ _ (off5_two k j hj')).trans ?_)
      exact outOf_eq (inpOf arg2 arg3 arg4 arg10 v2 v4 v6 v7 v8 X2 X3 X4 X10) j rfl rfl rfl rfl (keys_at _ _ _ _ _ (off4_two k j hj')) (hst.ew j 0 hj')
        (hst.ec j 0 hj') (hst.ew j 1 hj') (hst.ec j 1 hj')
    · refine (rows_miss _ _ _ _ _ _ _ ⟨2 * k.val + 1, by omega⟩ (off5_one k _ rfl) (fun h => by rw [h] at hj'; simp at hj')).trans
        ((rows_miss _ _ _ _ _ _ _ ⟨2 * k.val, by omega⟩ (off5_two k _ rfl) (fun h => by rw [h] at hj'; simp at hj')).trans (hst.out j hj'))

/-- What the buffers hold before trip `n`. -/
abbrev loopHeld (n : ℕ) : sProp 𝕄N :=
  iprop(∃ g9 g11 g12 g13 g14, Held c arg2 arg3 arg4 arg9 arg10 arg11 arg12 arg13 arg14 X2 X3 X4 g9 X10 g11 g12 g13 g14
    ∗ ⌜LoopSt (inpOf arg2 arg3 arg4 arg10 v2 v4 v6 v7 v8 X2 X3 X4 X10) n (arg9.view.read (Elt F) g9)
        (arg11.view.read (Elt F) g11) (arg12.view.read (Elt F) g12) (arg13.view.read (Elt F) g13) (arg14.view.read (Elt F) g14)⌝)

/-- One trip, from what the buffers hold before it to what they hold before the next. -/
theorem trip_held (k : Fin k0_t1_loop.trips) (E : Set ℕ) :
    loopHeld c arg2 arg3 arg4 arg9 arg10 arg11 arg12 arg13 arg14 v2 v4 v6 v7 v8 X2 X3 X4 X10 k.val
    ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg12 harg12 arg13 harg13 arg14 harg14 v2 v4 v6 v7 v8 c1_i32_125 c7_i32 k PUnit.unit)
        (fun _ => loopHeld c arg2 arg3 arg4 arg9 arg10 arg11 arg12 arg13 arg14 v2 v4 v6 v7 v8 X2 X3 X4 X10 (k.val + 1)) := by
  iintro ⟨%g9, %g11, %g12, %g13, %g14, H, %hst⟩
  iapply (trip 𝒱 c bd i arg2 harg2 arg3 harg3 arg4 harg4 arg5 harg5 arg6 harg6 arg7 harg7 arg8 harg8 arg9 harg9 arg10 harg10 arg11 harg11 arg12 harg12 arg13 harg13 arg14 harg14 v2 v4 v6 v7 v8 c1_i32_125 c7_i32 X2 X3 X4 X10 k E g9 g11 g12 g13 g14 hst)
  iexact H

/-- The loop goes through its seven trips. -/
theorem loop_run (E : Set ℕ) {β : Type} {kk : PUnit → Prog (TpuEff nD τ sig (Elt F) Λ₀ .tc) β} {Q : β → sProp 𝕄N} :
    loopHeld c arg2 arg3 arg4 arg9 arg10 arg11 arg12 arg13 arg14 v2 v4 v6 v7 v8 X2 X3 X4 X10 0
    ⊢ iprop((loopHeld c arg2 arg3 arg4 arg9 arg10 arg11 arg12 arg13 arg14 v2 v4 v6 v7 v8 X2 X3 X4 X10 7
          -∗ wp frame (wpE (defs₀ (F := F)) 𝒱 (c : Thread nD τ) bd) E (kk PUnit.unit) Q)
        -∗ wp frame (wpE (defs₀ (F := F)) 𝒱 (c : Thread nD τ) bd) E
          (Scf.Loop.for k0_t1_loop k0_t1_ok PUnit.unit (k0_t1_body (F := F) i arg2 harg2 arg3 harg3 arg4 harg4 arg5 harg5 arg6 harg6 arg7 harg7 arg8 harg8 arg9 harg9 arg10 harg10 arg11 harg11 arg12 harg12 arg13 harg13 arg14 harg14 v2 v4 v6 v7 v8 c1_i32_125 c7_i32) >>= kk) Q) := by
  have ht : k0_t1_loop.trips = 7 := by decide +kernel
  have h := exec_loop (Q := Q) (kk := kk) frame (wpE (defs₀ (F := F)) 𝒱 (c : Thread nD τ) bd) E k0_t1_loop.lb k0_t1_loop.ub k0_t1_loop.st k0_t1_ok PUnit.unit
    (k0_t1_body (F := F) i arg2 harg2 arg3 harg3 arg4 harg4 arg5 harg5 arg6 harg6 arg7 harg7 arg8 harg8 arg9 harg9 arg10 harg10 arg11 harg11 arg12 harg12 arg13 harg13 arg14 harg14 v2 v4 v6 v7 v8 c1_i32_125 c7_i32)
    { inv := fun n _ => loopHeld c arg2 arg3 arg4 arg9 arg10 arg11 arg12 arg13 arg14 v2 v4 v6 v7 v8 X2 X3 X4 X10 n
      step := fun k _ => trip_held 𝒱 c bd i arg2 harg2 arg3 harg3 arg4 harg4 arg5 harg5 arg6 harg6 arg7 harg7 arg8 harg8 arg9 harg9 arg10 harg10 arg11 harg11 arg12 harg12 arg13 harg13 arg14 harg14 v2 v4 v6 v7 v8 c1_i32_125 c7_i32 X2 X3 X4 X10 k E }
  refine h.trans ?_
  iintro H HK
  iapply H
  iintro %acc HI
  iapply HK
  have e : loopHeld c arg2 arg3 arg4 arg9 arg10 arg11 arg12 arg13 arg14 v2 v4 v6 v7 v8 X2 X3 X4 X10 k0_t1_loop.trips
      ⊢ loopHeld c arg2 arg3 arg4 arg9 arg10 arg11 arg12 arg13 arg14 v2 v4 v6 v7 v8 X2 X3 X4 X10 7 := by rw [ht]
  iapply e
  iexact HI

end

end Cert.Na

end
end
-- ==== Proof.NaBias.lean ====
/- The finished bias table of the neighbourhood attention, piece by piece and entry by entry. -/
module

public import proofs.«01_k».proof.Proof.NaTerms
public import Idealize.ShloMosaic.Lib.Exec
public import Idealize.ShloMosaic.Lib.Pointwise
public import Idealize.ShloMosaic.Lib.Tactic
public import Idealize.ShloMosaic.Lib.Pipeline.Kit

@[expose] public section

set_option maxRecDepth 16384
set_option maxHeartbeats 1000000

noncomputable section

namespace Cert.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow (window put)

variable {F : FTy → Type} [FloatOps F]

/-- The table row at which query row `a` of pattern `p` starts. -/
abbrev tabStart (p : Fin 3) (r : Fin 256) : ℕ := 11 - 4 * p.val - r.val / 64

/-- The even start of a strip leaves room for its 768 entries. -/
theorem tabEven (p : Fin 3) (r : Fin 256) (m : Fin 768) : 64 * (tabStart p r - tabStart p r % 2) + m.val < 1536 := by
  unfold tabStart; omega

/-- One entry of the finished bias table: the column table at the query row's start, plus the mask of the image rows that fall
outside the neighbourhood. -/
def biasAt (x7 : Vec F S2x2x64x1536 .f32) (x8 : Vec F S3x4x1x768 .f32) (p : Fin 3) (h : Fin 2) (r : Fin 256) (m : Fin 768) : F .f32 :=
  FloatOps.addf (x7 (ix4 h (⟨tabStart p r % 2, by omega⟩ : Fin 2) (⟨r.val % 64, by omega⟩ : Fin 64)
      (⟨64 * (tabStart p r - tabStart p r % 2) + m.val, tabEven p r m⟩ : Fin 1536)))
    (x8 (ix4 p (⟨r.val / 64, by omega⟩ : Fin 4) (0 : Fin 1) m))

/-- The finished bias table. -/
def biasAll (x7 : Vec F S2x2x64x1536 .f32) (x8 : Vec F S3x4x1x768 .f32) : Vec F S1x3x2x256x768 .f32 :=
  fun y => biasAt x7 x8 (y 1) (y 2) (y 3) (y 4)

/-- One entry of a stored piece: the table's entry plus the row mask's. -/
theorem piece_entry (t : Vec F S1x1x64x768 .f32) (b : Vec F S1x1x1x768 .f32) (z : S1x1x1x64x768.Idx) :
    k0_pay2 t b z = FloatOps.addf (t (ix4 (0 : Fin 1) (0 : Fin 1) (z 3) (z 4))) (b (ix4 (0 : Fin 1) (0 : Fin 1) (0 : Fin 1) (z 4))) := by
  unfold k0_pay2
  pointwise

/-- One of the 24 stores of the table: image row `a` of pattern `p` for head `h`, at its place in the finished table. -/
theorem bias_piece (p : Fin 3) (h : Fin 2) (a : Fin 4) (x7 : Vec F S2x2x64x1536 .f32) (x8 : Vec F S3x4x1x768 .f32)
    (it) (ib) (io) (w : Vec F S1x1x1x64x768 .f32)
    (hw : w = k0_pay2 (window x7 ![h.val, (11 - 4 * p.val - a.val) % 2, 0, 64 * ((11 - 4 * p.val - a.val) - (11 - 4 * p.val - a.val) % 2)] S1x1x64x768.size it)
      (window x8 ![p.val, a.val, 0, 0] S1x1x1x768.size ib)) (z : S1x1x1x64x768.Idx) :
    w z = biasAll x7 x8 ((Rect.unit (s := S1x3x2x256x768) ![0, p.val, h.val, 64 * a.val, 0] S1x1x1x64x768.size io).emb z) := by
  subst hw
  have hz : (z 3).val < 64 := (z 3).isLt
  have ha : a.val < 4 := a.isLt
  rw [piece_entry]
  refine congrArg₂ FloatOps.addf (congrArg x7 ?_) (congrArg x8 ?_)
  · funext k
    refine Fin.ext ?_
    fin_cases k
    · show h.val + 1 * 0 = h.val + 1 * (z 2).val
      have : (z 2).val < 1 := (z 2).isLt
      omega
    · show (11 - 4 * p.val - a.val) % 2 + 1 * 0 = (11 - 4 * (p.val + 1 * (z 1).val) - (64 * a.val + 1 * (z 3).val) / 64) % 2
      have : (z 1).val < 1 := (z 1).isLt
      have e1 : p.val + 1 * (z 1).val = p.val := by omega
      have e2 : (64 * a.val + 1 * (z 3).val) / 64 = a.val := by omega
      rw [e1, e2]; omega
    · show 0 + 1 * (z 3).val = (64 * a.val + 1 * (z 3).val) % 64
      omega
    · show 64 * ((11 - 4 * p.val - a.val) - (11 - 4 * p.val - a.val) % 2) + 1 * (z 4).val = 64 * ((11 - 4 * (p.val + 1 * (z 1).val) - (64 * a.val + 1 * (z 3).val) / 64) - (11 - 4 * (p.val + 1 * (z 1).val) - (64 * a.val + 1 * (z 3).val) / 64) % 2) + (0 + 1 * (z 4).val)
      have : (z 1).val < 1 := (z 1).isLt
      have e1 : p.val + 1 * (z 1).val = p.val := by omega
      have e2 : (64 * a.val + 1 * (z 3).val) / 64 = a.val := by omega
      rw [e1, e2]; omega
  · funext k
    refine Fin.ext ?_
    fin_cases k
    · show p.val + 1 * 0 = p.val + 1 * (z 1).val
      have : (z 1).val < 1 := (z 1).isLt
      omega
    · show a.val + 1 * 0 = (64 * a.val + 1 * (z 3).val) / 64
      omega
    · rfl
    · show 0 + 1 * (z 4).val = 0 + 1 * (z 4).val
      rfl

end Cert.Na

end
end
-- ==== Proof.NaBody.lean ====
/- The body of the neighbourhood attention: one grid point's run, from its blocks to its output block. -/
module

public import proofs.«01_k».proof.Proof.NaLoop
public import proofs.«01_k».proof.Proof.NaBias
public import Idealize.ShloMosaic.Lib.Exec
public import Idealize.ShloMosaic.Lib.Pointwise
public import Idealize.ShloMosaic.Lib.Tactic
public import Idealize.ShloMosaic.Lib.Pipeline.Kit

@[expose] public section

set_option maxRecDepth 16384
set_option maxHeartbeats 1000000

noncomputable section

namespace Cert.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow (window put)

variable {F : FTy → Type} [FloatOps F]

local notation "𝕄N" => MT nD τ sig Unit (Elt F) ℕ (UR sig nD τ) ℕ

/-- The 128 lanes' mask, the lane counters and the operands of a grid point, as the body reads them off its blocks. -/
def inpAt (x2 x3 x4 : Vec F S1x4096x128 .bf16) (x5 x6 : Vec F S1x256x128 .bf16) (B : Vec F S1x3x2x256x768 .f32) : Inp F :=
  ⟨k0_pay79, k0_pay80 (window x5 ![0, 0, 0] S1x256x128.size inb_S1x256x128_S1x256x128_0_0_0),
    k0_pay81 (window x6 ![0, 0, 0] S1x256x128.size inb_S1x256x128_S1x256x128_0_0_0), iota .tc S768x128 32 [1] iota_S768x128_d1_w32, iota .tc S256x128 32 [1] iota_S256x128_d1_w32,
    x2, x3, x4, B⟩

/-! The body's other names for the same steps. -/

/-- One printed spelling of the exponentials of the window scores is the plain one. -/
theorem expW_d (s : Vec F S1x1x256x768 .f32) (c : Vec F S1x1x256x256 .f32) :
    k0_pay95 s c = k0_pay46 s c := rfl

/-- One printed spelling of the exponentials of the context scores is the plain one. -/
theorem expC_d (s : Vec F S1x1x256x768 .f32) (c : Vec F S1x1x256x256 .f32) :
    k0_pay96 s c = k0_pay48 (k0_pay47 s c) := rfl

/-- One printed spelling of the exponentials of the window scores is the plain one. -/
theorem expW_e (s : Vec F S1x1x256x768 .f32) (c : Vec F S1x1x256x256 .f32) :
    k0_pay100 (k0_pay97 s) (k0_pay99 s c) = k0_pay46 s c := rfl

/-- One printed spelling of the exponentials of the context scores is the plain one. -/
theorem expC_e (s : Vec F S1x1x256x768 .f32) (c : Vec F S1x1x256x256 .f32) :
    k0_pay101 (k0_pay98 c) (k0_pay99 s c) = k0_pay48 (k0_pay47 s c) := rfl

/-- One printed spelling of the exponentials of the window scores is the plain one. -/
theorem expW_f (s : Vec F S1x1x256x768 .f32) (c : Vec F S1x1x256x256 .f32) :
    k0_pay124 (k0_pay123 s c) = k0_pay46 s c := rfl

/-- One printed spelling of the exponentials of the context scores is the plain one. -/
theorem expC_f (s : Vec F S1x1x256x768 .f32) (c : Vec F S1x1x256x256 .f32) :
    k0_pay125 (k0_pay121 c) (k0_pay122 s c) = k0_pay48 (k0_pay47 s c) := rfl

/-- One printed spelling of the exponentials of the window scores is the plain one. -/
theorem expW_g (s : Vec F S1x1x256x768 .f32) (c : Vec F S1x1x256x256 .f32) :
    k0_pay129 s c = k0_pay46 s c := rfl

/-- One printed spelling of the exponentials of the context scores is the plain one. -/
theorem expC_g (s : Vec F S1x1x256x768 .f32) (c : Vec F S1x1x256x256 .f32) :
    k0_pay131 (k0_pay130 s c) = k0_pay48 (k0_pay47 s c) := rfl

/-- One printed spelling of the window scores is the plain one. -/
theorem scoreW_c (q : Vec F S1x256x128 .bf16) (k : Vec F S1x768x128 .bf16) (b : Vec F S1x1x1x256x768 .f32) :
    k0_pay87 (k0_pay86 q k) b = k0_pay53 (k0_pay52 k0_pay79 q k b) := rfl

/-- One printed spelling of the context scores is the plain one. -/
theorem scoreC_c (kc : FVec F S256x128 .bf16) (q : Vec F S1x256x128 .bf16) :
    k0_pay88 kc (k0_pay85 q) = k0_pay54 kc (k0_pay51 k0_pay79 q) := rfl

/-- One printed spelling of the window scores is the plain one. -/
theorem scoreW_d (lo : IVec S256x128 1) (q : Vec F S1x256x128 .bf16) (k : Vec F S1x768x128 .bf16) (b : Vec F S1x1x1x256x768 .f32) :
    k0_pay90 lo (k0_pay83 q) (k0_pay84 k) b = k0_pay56 lo (k0_pay49 q) (k0_pay50 k) b := rfl

/-- One printed spelling of the context scores is the plain one. -/
theorem scoreC_d (lo : IVec S256x128 1) (kc : FVec F S256x128 .bf16) (q : Vec F S1x256x128 .bf16) :
    k0_pay91 lo kc (k0_pay83 q) = k0_pay57 lo kc (k0_pay49 q) := rfl

/-- One printed spelling of the window scores is the plain one. -/
theorem scoreW_e (lo : IVec S256x128 1) (q : Vec F S1x256x128 .bf16) (k : Vec F S1x768x128 .bf16) (b : Vec F S1x1x1x256x768 .f32) :
    k0_pay106 (k0_pay105 lo q k) b = k0_pay53 (k0_pay52 lo q k b) := rfl

/-- One printed spelling of the context scores is the plain one. -/
theorem scoreC_e (lo : IVec S256x128 1) (kc : FVec F S256x128 .bf16) (q : Vec F S1x256x128 .bf16) :
    k0_pay107 kc (k0_pay104 lo q) = k0_pay54 kc (k0_pay51 lo q) := rfl

/-- One printed spelling of the window scores is the plain one. -/
theorem scoreW_f (lo : IVec S256x128 1) (q : Vec F S1x256x128 .bf16) (k : Vec F S1x768x128 .bf16) (b : Vec F S1x1x1x256x768 .f32) :
    k0_pay109 lo (k0_pay102 q) (k0_pay103 k) b = k0_pay56 lo (k0_pay49 q) (k0_pay50 k) b := rfl

/-- One printed spelling of the context scores is the plain one. -/
theorem scoreC_f (lo : IVec S256x128 1) (kc : FVec F S256x128 .bf16) (q : Vec F S1x256x128 .bf16) :
    k0_pay110 lo kc (k0_pay102 q) = k0_pay57 lo kc (k0_pay49 q) := rfl

/-- One printed spelling of the output rows is the plain one. -/
theorem outOf_b (lo : IVec S256x128 1) (vc : FVec F S256x128 .bf16) (l : IVec S768x128 32) (v : Vec F S1x768x128 .bf16)
    (p p' : Vec F S1x1x256x768 .bf16) (r r' : Vec F S1x1x256x256 .bf16) :
    k0_pay119 lo vc (iota .tc S256x128 32 [1] iota_S256x128_d1_w32) (k0_pay116 vc l (iota .tc S256x128 32 [1] iota_S256x128_d1_w32) v p r)
      (k0_pay117 l v) k0_pay118 p' r' = k0_pay35 lo vc (iota .tc S256x128 32 [1] iota_S256x128_d1_w32) (k0_pay32 v) (k0_pay33 vc l (iota .tc S256x128 32 [1] iota_S256x128_d1_w32) v p r) (k0_pay34 l)
      (Scalar.ofBits .bf16 0x3F80#16) p' r' := rfl

/-- One printed spelling of the output rows is the plain one. -/
theorem outOf_c (lo : IVec S256x128 1) (vc : FVec F S256x128 .bf16) (l : IVec S768x128 32) (v : Vec F S1x768x128 .bf16)
    (p p' : Vec F S1x1x256x768 .bf16) (r r' : Vec F S1x1x256x256 .bf16) :
    k0_pay1 lo vc (iota .tc S256x128 32 [1] iota_S256x128_d1_w32) (k0_pay133 vc l (iota .tc S256x128 32 [1] iota_S256x128_d1_w32) v p r)
      (k0_pay134 l v) k0_pay135 p' r' = k0_pay35 lo vc (iota .tc S256x128 32 [1] iota_S256x128_d1_w32) (k0_pay32 v) (k0_pay33 vc l (iota .tc S256x128 32 [1] iota_S256x128_d1_w32) v p r) (k0_pay34 l)
      (Scalar.ofBits .bf16 0x3F80#16) p' r' := rfl

section
variable (𝒱 : Variants) (c : Dev nD) (bd : Option 𝒱.V) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S2x2x64x1536 .f32) (harg7 : arg7.IsWhole) (arg8 : Memref sig .tc .vmem S3x4x1x768 .f32) (harg8 : arg8.IsWhole) (arg9 : Memref sig .tc .vmem S1x4096x128 .bf16) (harg9 : arg9.IsWhole) (arg10 : Memref sig .tc .vmem S1x3x2x256x768 .f32) (harg10 : arg10.IsWhole) (arg11 : Memref sig .tc .vmem S2x2x256x768 .f32) (harg11 : arg11.IsWhole) (arg12 : Memref sig .tc .vmem S2x2x256x256 .f32) (harg12 : arg12.IsWhole) (arg13 : Memref sig .tc .vmem S2x2x256x768 .bf16) (harg13 : arg13.IsWhole) (arg14 : Memref sig .tc .vmem S2x2x256x256 .bf16) (harg14 : arg14.IsWhole)

  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)

/-- The whole body. -/
theorem body_run (E : Set ℕ)
    (hB : (i 1).val ≠ 0 → arg10.view.read (Elt F) f10 = biasAll (arg7.view.read (Elt F) f7) (arg8.view.read (Elt F) f8)) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄N)
    ⊢ wp frame (wpE (defs₀ (F := F)) 𝒱 (c : Thread nD τ) bd) E
        (cc0_na (F := F) i arg2 harg2 arg3 harg3 arg4 harg4 arg5 harg5 arg6 harg6 arg7 harg7 arg8 harg8 arg9 harg9 arg10 harg10 arg11 harg11 arg12 harg12 arg13 harg13 arg14 harg14)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ ∃ g9 g10, (arg9.view.loc (c : Thread nD τ) ↦[arg9.view.set]{fullShare} g9) ∗ (arg10.view.loc (c : Thread nD τ) ↦[arg10.view.set]{fullShare} g10) ∗ (∃ g11, (arg11.view.loc (c : Thread nD τ) ↦[arg11.view.set]{fullShare} g11)) ∗ (∃ g12, (arg12.view.loc (c : Thread nD τ) ↦[arg12.view.set]{fullShare} g12)) ∗ (∃ g13, (arg13.view.loc (c : Thread nD τ) ↦[arg13.view.set]{fullShare} g13)) ∗ (∃ g14, (arg14.view.loc (c : Thread nD τ) ↦[arg14.view.set]{fullShare} g14))
          ∗ ⌜arg10.view.read (Elt F) g10 = biasAll (arg7.view.read (Elt F) f7) (arg8.view.read (Elt F) f8)
              ∧ ∀ j, rows (arg9.view.read (Elt F) g9) j = outOf (inpAt (arg2.view.read (Elt F) f2) (arg3.view.read (Elt F) f3) (arg4.view.read (Elt F) f4)
                  (arg5.view.read (Elt F) f5) (arg6.view.read (Elt F) f6) (arg10.view.read (Elt F) g10)) j⌝)) := by
  simp only [cc0_na_eq_skeleton]; unfold cc0_na_skel
  simp only [k0_part19_eq_skeleton]; unfold k0_part19_skel
  iintro ⟨H2, H3, H4, H5, H6, H7, H8, H9, H10, H11, H12, H13, H14⟩
  sl_exec
  iapply (loop_run 𝒱 c bd i arg2 harg2 arg3 harg3 arg4 harg4 arg5 harg5 arg6 harg6 arg7 harg7 arg8 harg8 arg9 harg9 arg10 harg10 arg11 harg11 arg12 harg12 arg13 harg13 arg14 harg14) $$ [H2 H3 H4 H9 H10 H11 H12 H13 H14]
  · iexists _, _, _, _, _
    isplitl [H2 H3 H4 H10 H9 H11 H12 H13 H14]
    · isplitl [H2]; · iexact H2
      isplitl [H3]; · iexact H3
      isplitl [H4]; · iexact H4
      isplitl [H10]; · iexact H10
      isplitl [H9]; · iexact H9
      isplitl [H11]; · iexact H11
      isplitl [H12]; · iexact H12
      isplitl [H13]; · iexact H13
      iexact H14
    ipureintro
    refine ⟨fun j h hj => ?_, fun j h hj => ?_, fun j h hj => ?_, fun j h hj => ?_, fun j hj => absurd hj (by omega)⟩
    · obtain rfl : j = 0 := Fin.ext (by simpa using hj)
      obtain rfl | rfl : h = 0 ∨ h = 1 := by omega
      · refine (window_miss _ _ _ _ _ _ rfl 1 (by decide)).trans ((window_hit _ _ _ _ _ _).trans ?_)
        refine (expW_d (F := F) _ _).trans (congrArg₂ k0_pay46 ?_ ?_)
        · exact (load_miss _ _ _ _ _ 1 (by decide)).trans ((load_hit _ _ _ _ _).trans ((scoreW_c (F := F) _ _ _).trans (winScore_zero (F := F) _ _ rfl (rows_at _ _ _ _ _ (by decide +kernel)) (keys_at _ _ _ _ _ (by decide +kernel)) (bias_at _ _ _ _ _ _ (by decide +kernel)))))
        · exact (load_miss _ _ _ _ _ 1 (by decide)).trans ((load_hit _ _ _ _ _).trans ((scoreC_c (F := F) _ _).trans (ctxScore_zero (F := F) _ _ rfl rfl (rows_at _ _ _ _ _ (by decide +kernel)))))
      · refine (window_hit _ _ _ _ _ _).trans ?_
        refine (expW_e (F := F) _ _).trans (congrArg₂ k0_pay46 ?_ ?_)
        · exact (load_hit _ _ _ _ _).trans ((scoreW_d (F := F) _ _ _ _).trans (winScore_one (F := F) _ _ rfl (rows_at _ _ _ _ _ (by decide +kernel)) (keys_at _ _ _ _ _ (by decide +kernel)) (bias_at _ _ _ _ _ _ (by decide +kernel))))
        · exact (load_hit _ _ _ _ _).trans ((scoreC_d (F := F) _ _ _).trans (ctxScore_one (F := F) _ _ rfl rfl (rows_at _ _ _ _ _ (by decide +kernel))))
    · obtain rfl : j = 0 := Fin.ext (by simpa using hj)
      obtain rfl | rfl : h = 0 ∨ h = 1 := by omega
      · refine (window_miss _ _ _ _ _ _ rfl 1 (by decide)).trans ((window_hit _ _ _ _ _ _).trans ?_)
        refine (expC_d (F := F) _ _).trans (congrArg₂ (fun s c => k0_pay48 (k0_pay47 s c)) ?_ ?_)
        · exact (load_miss _ _ _ _ _ 1 (by decide)).trans ((load_hit _ _ _ _ _).trans ((scoreW_c (F := F) _ _ _).trans (winScore_zero (F := F) _ _ rfl (rows_at _ _ _ _ _ (by decide +kernel)) (keys_at _ _ _ _ _ (by decide +kernel)) (bias_at _ _ _ _ _ _ (by decide +kernel)))))
        · exact (load_miss _ _ _ _ _ 1 (by decide)).trans ((load_hit _ _ _ _ _).trans ((scoreC_c (F := F) _ _).trans (ctxScore_zero (F := F) _ _ rfl rfl (rows_at _ _ _ _ _ (by decide +kernel)))))
      · refine (window_hit _ _ _ _ _ _).trans ?_
        refine (expC_e (F := F) _ _).trans (congrArg₂ (fun s c => k0_pay48 (k0_pay47 s c)) ?_ ?_)
        · exact (load_hit _ _ _ _ _).trans ((scoreW_d (F := F) _ _ _ _).trans (winScore_one (F := F) _ _ rfl (rows_at _ _ _ _ _ (by decide +kernel)) (keys_at _ _ _ _ _ (by decide +kernel)) (bias_at _ _ _ _ _ _ (by decide +kernel))))
        · exact (load_hit _ _ _ _ _).trans ((scoreC_d (F := F) _ _ _).trans (ctxScore_one (F := F) _ _ rfl rfl (rows_at _ _ _ _ _ (by decide +kernel))))
    · obtain rfl : j = 1 := Fin.ext (by simpa using hj)
      obtain rfl | rfl : h = 0 ∨ h = 1 := by omega
      · refine (window_miss _ _ _ _ _ _ rfl 1 (by decide)).trans ((window_hit _ _ _ _ _ _).trans ?_)
        exact ((scoreW_e (F := F) _ _ _ _).trans (winScore_zero (F := F) _ _ rfl (rows_at _ _ _ _ _ (by decide +kernel)) (keys_at _ _ _ _ _ (by decide +kernel)) (bias_at _ _ _ _ _ _ (by decide +kernel))))
      · refine (window_hit _ _ _ _ _ _).trans ?_
        exact ((scoreW_f (F := F) _ _ _ _).trans (winScore_one (F := F) _ _ rfl (rows_at _ _ _ _ _ (by decide +kernel)) (keys_at _ _ _ _ _ (by decide +kernel)) (bias_at _ _ _ _ _ _ (by decide +kernel))))
    · obtain rfl : j = 1 := Fin.ext (by simpa using hj)
      obtain rfl | rfl : h = 0 ∨ h = 1 := by omega
      · refine (window_miss _ _ _ _ _ _ rfl 1 (by decide)).trans ((window_hit _ _ _ _ _ _).trans ?_)
        exact ((scoreC_e (F := F) _ _ _).trans (ctxScore_zero (F := F) _ _ rfl rfl (rows_at _ _ _ _ _ (by decide +kernel))))
      · refine (window_hit _ _ _ _ _ _).trans ?_
        exact ((scoreC_f (F := F) _ _ _).trans (ctxScore_one (F := F) _ _ rfl rfl (rows_at _ _ _ _ _ (by decide +kernel))))
  iintro ⟨%g9, %g11, %g12, %g13, %g14, ⟨H2, H3, H4, H10, H9, H11, H12, H13, H14⟩, %hst⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _, _
  isplitl [H9]; · iexact H9
  isplitl [H10]; · iexact H10
  isplitl [H11]; · iexists _; iexact H11
  isplitl [H12]; · iexists _; iexact H12
  isplitl [H13]; · iexists _; iexact H13
  isplitl [H14]; · iexists _; iexact H14
  ipureintro
  refine ⟨?_, fun j => ?_⟩
  · by_cases h0 : (i 1).val = 0
    · have hc : body_run.sl.v11 i = 1#1 := by
        show Scalar.cmpi .ne (Scalar.extui (Scalar.cmpi .eq (BitVec.ofNat 32 (i 1).val) 0#32)) 0#32 = 1#1
        rw [h0]; decide
      rw [dif_pos hc]
      funext y
      refine View.read_writes_apply_of_pieces _ _ _ _ ?_ y (View.cover_of_tiled (s := S1x3x2x256x768) _ S1x1x1x64x768.size ?_ y)
      swap; · rfl
      refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩⟩⟩⟩⟩⟩⟩⟩⟩
      · exact bias_piece 2 1 3 (arg7.view.read (Elt F) f7) (arg8.view.read (Elt F) f8) (by decide) (by decide) (by decide) _ rfl
      · exact bias_piece 2 0 3 (arg7.view.read (Elt F) f7) (arg8.view.read (Elt F) f8) (by decide) (by decide) (by decide) _ rfl
      · exact bias_piece 2 1 2 (arg7.view.read (Elt F) f7) (arg8.view.read (Elt F) f8) (by decide) (by decide) (by decide) _ rfl
      · exact bias_piece 2 0 2 (arg7.view.read (Elt F) f7) (arg8.view.read (Elt F) f8) (by decide) (by decide) (by decide) _ rfl
      · exact bias_piece 2 1 1 (arg7.view.read (Elt F) f7) (arg8.view.read (Elt F) f8) (by decide) (by decide) (by decide) _ rfl
      · exact bias_piece 2 0 1 (arg7.view.read (Elt F) f7) (arg8.view.read (Elt F) f8) (by decide) (by decide) (by decide) _ rfl
      · exact bias_piece 2 1 0 (arg7.view.read (Elt F) f7) (arg8.view.read (Elt F) f8) (by decide) (by decide) (by decide) _ rfl
      · exact bias_piece 2 0 0 (arg7.view.read (Elt F) f7) (arg8.view.read (Elt F) f8) (by decide) (by decide) (by decide) _ rfl
      · exact bias_piece 1 1 3 (arg7.view.read (Elt F) f7) (arg8.view.read (Elt F) f8) (by decide) (by decide) (by decide) _ rfl
      · exact bias_piece 1 0 3 (arg7.view.read (Elt F) f7) (arg8.view.read (Elt F) f8) (by decide) (by decide) (by decide) _ rfl
      · exact bias_piece 1 1 2 (arg7.view.read (Elt F) f7) (arg8.view.read (Elt F) f8) (by decide) (by decide) (by decide) _ rfl
      · exact bias_piece 1 0 2 (arg7.view.read (Elt F) f7) (arg8.view.read (Elt F) f8) (by decide) (by decide) (by decide) _ rfl
      · exact bias_piece 1 1 1 (arg7.view.read (Elt F) f7) (arg8.view.read (Elt F) f8) (by decide) (by decide) (by decide) _ rfl
      · exact bias_piece 1 0 1 (arg7.view.read (Elt F) f7) (arg8.view.read (Elt F) f8) (by decide) (by decide) (by decide) _ rfl
      · exact bias_piece 1 1 0 (arg7.view.read (Elt F) f7) (arg8.view.read (Elt F) f8) (by decide) (by decide) (by decide) _ rfl
      · exact bias_piece 1 0 0 (arg7.view.read (Elt F) f7) (arg8.view.read (Elt F) f8) (by decide) (by decide) (by decide) _ rfl
      · exact bias_piece 0 1 3 (arg7.view.read (Elt F) f7) (arg8.view.read (Elt F) f8) (by decide) (by decide) (by decide) _ rfl
      · exact bias_piece 0 0 3 (arg7.view.read (Elt F) f7) (arg8.view.read (Elt F) f8) (by decide) (by decide) (by decide) _ rfl
      · exact bias_piece 0 1 2 (arg7.view.read (Elt F) f7) (arg8.view.read (Elt F) f8) (by decide) (by decide) (by decide) _ rfl
      · exact bias_piece 0 0 2 (arg7.view.read (Elt F) f7) (arg8.view.read (Elt F) f8) (by decide) (by decide) (by decide) _ rfl
      · exact bias_piece 0 1 1 (arg7.view.read (Elt F) f7) (arg8.view.read (Elt F) f8) (by decide) (by decide) (by decide) _ rfl
      · exact bias_piece 0 0 1 (arg7.view.read (Elt F) f7) (arg8.view.read (Elt F) f8) (by decide) (by decide) (by decide) _ rfl
      · exact bias_piece 0 1 0 (arg7.view.read (Elt F) f7) (arg8.view.read (Elt F) f8) (by decide) (by decide) (by decide) _ rfl
      · exact bias_piece 0 0 0 (arg7.view.read (Elt F) f7) (arg8.view.read (Elt F) f8) (by decide) (by decide) (by decide) _ rfl
    · rw [dif_neg]
      · exact hB h0
      · intro hc
        have hk : ∀ n : Fin 4, n.val ≠ 0 → ¬ Scalar.cmpi .ne (Scalar.extui (Scalar.cmpi .eq (BitVec.ofNat 32 n.val) 0#32)) 0#32 = 1#1 := by decide
        exact hk (i 1) h0 hc
  · obtain rfl | rfl | hj : j = 15 ∨ j = 14 ∨ j.val < 2 * 7 := by omega
    · refine (rows_hit _ _ _ _ _ _ _ (by decide +kernel)).trans ((outOf_c (F := F) _ _ _ _ _ _ _ _).trans (outOf_eq (F := F) _ _ rfl rfl rfl rfl (keys_at _ _ _ _ _ (by decide +kernel)) ?_ ?_ ?_ ?_))
      · exact (load_miss _ _ _ _ _ 1 (by decide)).trans ((load_hit _ _ _ _ _).trans ((expW_f (F := F) _ _).trans (congrArg₂ k0_pay46 (hst.sw 15 0 rfl) (hst.sc 15 0 rfl))))
      · exact (load_miss _ _ _ _ _ 1 (by decide)).trans ((load_hit _ _ _ _ _).trans ((expC_f (F := F) _ _).trans (congrArg₂ (fun s c => k0_pay48 (k0_pay47 s c)) (hst.sw 15 0 rfl) (hst.sc 15 0 rfl))))
      · exact (load_hit _ _ _ _ _).trans ((expW_g (F := F) _ _).trans (congrArg₂ k0_pay46 (hst.sw 15 1 rfl) (hst.sc 15 1 rfl)))
      · exact (load_hit _ _ _ _ _).trans ((expC_g (F := F) _ _).trans (congrArg₂ (fun s c => k0_pay48 (k0_pay47 s c)) (hst.sw 15 1 rfl) (hst.sc 15 1 rfl)))
    · refine (rows_miss _ _ _ _ _ _ _ 15 (by decide +kernel) (by decide)).trans ((rows_hit _ _ _ _ _ _ _ (by decide +kernel)).trans ?_)
      exact (outOf_b (F := F) _ _ _ _ _ _ _ _).trans (outOf_eq (F := F) _ _ rfl rfl rfl rfl (keys_at _ _ _ _ _ (by decide +kernel)) (hst.ew 14 0 rfl) (hst.ec 14 0 rfl) (hst.ew 14 1 rfl) (hst.ec 14 1 rfl))
    · exact (rows_miss _ _ _ _ _ _ _ 15 (by decide +kernel) (by rintro rfl; simp at hj)).trans
        ((rows_miss _ _ _ _ _ _ _ 14 (by decide +kernel) (by rintro rfl; simp at hj)).trans (hst.out j hj))

end

end Cert.Na

end
end
-- ==== Proof.NaFrame.lean ====
/- The whole run of the neighbourhood attention: the grid's points in order, its frame and its result array. -/
module

public import proofs.«01_k».proof.Proof.NaBody
public import proofs.«01_k».proof.Proof.Gen.KernelIdeal.Frame
public import Idealize.ShloMosaic.Lib.Pipeline.ValueKit

@[expose] public section

set_option maxRecDepth 16384

noncomputable section

namespace Cert.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open VecWindow (window put)

variable {F : FTy → Type} [FloatOps F]

local notation "𝕄N" => MT nD τ sig Unit (Elt F) ℕ (UR sig nD τ) ℕ

variable (m : (ℓ : Loc nD τ sig) → Buf (Elt F) ℓ) (ρ : Dev nD → PrngReg)

/-- The windows' block indices at point `t`: batch `t % 4`, pair of heads `t / 4`. -/
theorem idx : ∀ t : Fin cfg0.N, win0_0.index t = ![t.val % 4, 0, t.val / 4] ∧ win0_1.index t = ![t.val % 4, 0, t.val / 4]
    ∧ win0_2.index t = ![t.val % 4, 0, t.val / 4] ∧ win0_3.index t = ![t.val % 4, 0, t.val / 4]
    ∧ win0_4.index t = ![t.val % 4, 0, t.val / 4] ∧ win0_5.index t = ![t.val / 4, 0, 0, 0]
    ∧ win0_6.index t = ![0, 0, 0, 0] ∧ win0_7.index t = ![t.val % 4, 0, t.val / 4]
    ∧ t.val / 4 < 4 ∧ (grid0.coords t 1).val = t.val % 4 :=
  (by decide +kernel : ∀ t : Fin grid0.N, _)

/-- The column table staged at point `t` is its pair's two heads. -/
theorem cols_at (c : Dev nD) (t : Fin cfg0.N) (h : Fin 2) (p : Fin 2) (r : Fin 64) (n : Fin 1536) :
    iblk m c 5 t (ix4 h p r n) = V m c main_v48 (ix4 (⟨t.val / 4 * 2 + h.val, by have := (idx t).2.2.2.2.2.2.2.2.1; omega⟩ : Fin 8) p r n) := by
  unfold iblk
  rw [View.read_apply]
  show V m c main_v48 _ = _
  blk_ext [idx t]

/-- The row mask staged at point `t` is the whole mask. -/
theorem mask_at (c : Dev nD) (t : Fin cfg0.N) (p : Fin 3) (a : Fin 4) (z : Fin 1) (n : Fin 768) :
    iblk m c 6 t (ix4 p a z n) = V m c main_v52 (ix4 p a z n) := by
  unfold iblk
  rw [View.read_apply]
  show V m c main_v52 _ = _
  blk_ext [idx t]

/-- The finished bias table of point `t`. -/
def tables (c : Dev nD) (t : Fin cfg0.N) : Vec F S1x3x2x256x768 .f32 := biasAll (iblk m c 5 t) (iblk m c 6 t)

/-- The table does not change between the batches of one pair. -/
theorem tables_next (c : Dev nD) (t t' : Fin cfg0.N) (h : t.val / 4 = t'.val / 4) : tables m c t = tables m c t' := by
  unfold tables biasAll
  funext y
  unfold biasAt
  refine congrArg₂ FloatOps.addf ?_ ?_
  · refine (cols_at m c t _ _ _ _).trans (Eq.trans ?_ (cols_at m c t' _ _ _ _).symm)
    exact congrArg (fun q => V m c main_v48 (ix4 q _ _ _)) (Fin.ext (by show t.val / 4 * 2 + _ = t'.val / 4 * 2 + _; rw [h]))
  · exact (mask_at m c t _ _ _ _).trans (mask_at m c t' _ _ _ _).symm

/-- Point `t`'s operands. -/
def inp (c : Dev nD) (t : Fin cfg0.N) : Inp F :=
  inpAt (iblk m c 0 t) (iblk m c 1 t) (iblk m c 2 t) (iblk m c 3 t) (iblk m c 4 t) (tables m c t)

/-- The result block of point `t`: the sixteen blocks of 256 tokens one under the other. -/
def block (c : Dev nD) (t : Fin cfg0.N) : Vec F S1x4096x128 .bf16 :=
  fun y => outOf (inp m c t) (⟨(y 1).val / 256, by have h : (y 1).val < 4096 := (y 1).isLt; omega⟩ : Fin 16)
    (ix3 (0 : Fin 1) (⟨(y 1).val % 256, by omega⟩ : Fin 256) (y 2))

/-- A block known sixteen pieces at a time. -/
theorem block_of_rows (c : Dev nD) (t : Fin cfg0.N) (x : Vec F S1x4096x128 .bf16) (h : ∀ j, rows x j = outOf (inp m c t) j) :
    x = block m c t := by
  funext y
  have hy : (y 1).val < 4096 := (y 1).isLt
  refine Eq.trans ?_ (congrFun (h ⟨(y 1).val / 256, by omega⟩) (ix3 (0 : Fin 1) (⟨(y 1).val % 256, by omega⟩ : Fin 256) (y 2)))
  refine congrArg x (funext fun a => Fin.ext ?_)
  fin_cases a
  · have h0 : (y 0).val < 1 := (y 0).isLt
    show (y 0).val = 0 + 1 * 0
    omega
  · show (y 1).val = 256 * ((y 1).val / 256) + 1 * ((y 1).val % 256)
    omega
  · show (y 2).val = 0 + 1 * (y 2).val
    omega

/-- What the scratch buffers hold before point `n`: if `n` is not the first point of its pair, the first one holds that pair's
bias table; the others hold anything. -/
def Carry (c : Dev nD) (n : ℕ) : sProp 𝕄N :=
  iprop((∃ B, ⌜∀ t : Fin cfg0.N, t.val = n → n % 4 ≠ 0 → B = tables m c t⌝ ∗ owns (c : Thread nD τ) (Memref.whole cc0_scratch0) fullShare B)
    ∗ (∃ d, owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ (∃ d, owns (c : Thread nD τ) (Memref.whole cc0_scratch4) fullShare d)
    ∗ (∃ r, prngReg c r))

/-- What the run starts with: the five scratch buffers and the random state, whatever they hold. -/
theorem start_eq (c : Dev nD) : (Pipeline.ΦA spec0 c : sProp 𝕄N)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- The pipeline's proof data: the arrays as the region finds them, each input's buffer at its block, the result's at `block`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => block m c t
  Φ t := Carry m c t.val
  q _ := fullShare
  owed _ := 0

/-- The arrays as the region finds them. -/
theorem A_eq (c : Dev nD) (w : Fin cfg0.W) : (dats m 0 c).A w = V m c (Pipeline.arrRef spec0 w) := by dsimp only [dats]
/-- What is carried into a point. -/
theorem carry_before (c : Dev nD) (t : Fin cfg0.N) : (dats m 0 c).Φ t.castSucc = Carry m c t.val := by
  dsimp only [dats]; rfl
/-- What is carried out of a point. -/
theorem carry_after (c : Dev nD) (t : Fin cfg0.N) : (dats m 0 c).Φ t.succ = Carry m c (t.val + 1) := by
  dsimp only [dats]; rfl

/-- What a point leaves in window 0: the block it found. -/
theorem after_0 (c : Dev nD) (t : Fin cfg0.N) : (dats m 0 c).after 0 t = iblk m c 0 t := by dsimp only [dats]
/-- What a point leaves in window 1: the block it found. -/
theorem after_1 (c : Dev nD) (t : Fin cfg0.N) : (dats m 0 c).after 1 t = iblk m c 1 t := by dsimp only [dats]
/-- What a point leaves in window 2: the block it found. -/
theorem after_2 (c : Dev nD) (t : Fin cfg0.N) : (dats m 0 c).after 2 t = iblk m c 2 t := by dsimp only [dats]
/-- What a point leaves in window 3: the block it found. -/
theorem after_3 (c : Dev nD) (t : Fin cfg0.N) : (dats m 0 c).after 3 t = iblk m c 3 t := by dsimp only [dats]
/-- What a point leaves in window 4: the block it found. -/
theorem after_4 (c : Dev nD) (t : Fin cfg0.N) : (dats m 0 c).after 4 t = iblk m c 4 t := by dsimp only [dats]
/-- What a point leaves in window 5: the block it found. -/
theorem after_5 (c : Dev nD) (t : Fin cfg0.N) : (dats m 0 c).after 5 t = iblk m c 5 t := by dsimp only [dats]
/-- What a point leaves in window 6: the block it found. -/
theorem after_6 (c : Dev nD) (t : Fin cfg0.N) : (dats m 0 c).after 6 t = iblk m c 6 t := by dsimp only [dats]
/-- What a point leaves in window 7: its output block. -/
theorem after_7 (c : Dev nD) (t : Fin cfg0.N) : (dats m 0 c).after 7 t = block m c t := by dsimp only [dats]
/-- What a point finds in window 0: its block of the array. -/
theorem before_0 (c : Dev nD) (t : Fin cfg0.N) (d) : (dats m 0 c).before 0 t d = iblk m c 0 t :=
  before0_0_of m (dats m 0 c) (A_eq m c 0) (after_0 m c) t d
/-- What a point finds in window 1: its block of the array. -/
theorem before_1 (c : Dev nD) (t : Fin cfg0.N) (d) : (dats m 0 c).before 1 t d = iblk m c 1 t :=
  before0_1_of m (dats m 0 c) (A_eq m c 1) (after_1 m c) t d
/-- What a point finds in window 2: its block of the array. -/
theorem before_2 (c : Dev nD) (t : Fin cfg0.N) (d) : (dats m 0 c).before 2 t d = iblk m c 2 t :=
  before0_2_of m (dats m 0 c) (A_eq m c 2) (after_2 m c) t d
/-- What a point finds in window 3: its block of the array. -/
theorem before_3 (c : Dev nD) (t : Fin cfg0.N) (d) : (dats m 0 c).before 3 t d = iblk m c 3 t :=
  before0_3_of m (dats m 0 c) (A_eq m c 3) (after_3 m c) t d
/-- What a point finds in window 4: its block of the array. -/
theorem before_4 (c : Dev nD) (t : Fin cfg0.N) (d) : (dats m 0 c).before 4 t d = iblk m c 4 t :=
  before0_4_of m (dats m 0 c) (A_eq m c 4) (after_4 m c) t d
/-- What a point finds in window 5: its block of the array. -/
theorem before_5 (c : Dev nD) (t : Fin cfg0.N) (d) : (dats m 0 c).before 5 t d = iblk m c 5 t :=
  before0_5_of m (dats m 0 c) (A_eq m c 5) (after_5 m c) t d
/-- What a point finds in window 6: its block of the array. -/
theorem before_6 (c : Dev nD) (t : Fin cfg0.N) (d) : (dats m 0 c).before 6 t d = iblk m c 6 t :=
  before0_6_of m (dats m 0 c) (A_eq m c 6) (after_6 m c) t d

/-- The body's precondition at point `t`, -/
def bodyPre (c : Dev nD) (t : Fin cfg0.N) : sProp 𝕄N :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄N :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- A window that moves at a point leaves its staging buffer with what the point left in it. -/
theorem leaves (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact
  rw [show cfg0.idle w (cfg0.grid.coords t) = false from h]

set_option maxHeartbeats 4000000 in
/-- The body at every point: it finds the blocks and, past the first batch of a pair, that pair's bias table, and leaves the table and
the result block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl, carry_before, carry_after]
  rw [leaves m c t 0 rfl, after_0]
  rw [leaves m c t 1 rfl, after_1]
  rw [leaves m c t 2 rfl, after_2]
  rw [leaves m c t 3 rfl, after_3]
  rw [leaves m c t 4 rfl, after_4]
  rw [leaves m c t 5 rfl, after_5]
  rw [leaves m c t 6 rfl, after_6]
  rw [leaves m c t 7 rfl, after_7]
  unfold Carry
  iintro ⟨⟨⟨%B, %hB, HS0⟩, ⟨%e1, HS1⟩, ⟨%e2, HS2⟩, ⟨%e3, HS3⟩, ⟨%e4, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  unfold owns
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases HS0 with ⟨%g0, %hg0, HS0⟩
  icases HS1 with ⟨%g1, %hg1, HS1⟩
  icases HS2 with ⟨%g2, %hg2, HS2⟩
  icases HS3 with ⟨%g3, %hg3, HS3⟩
  icases HS4 with ⟨%g4, %hg4, HS4⟩
  have hcarry : (grid0.coords t 1).val ≠ 0 → (Memref.whole cc0_scratch0).view.read (Elt F) g0
      = biasAll ((win0_5.stage (cfg0.slots t 5)).view.read (Elt F) f5) ((win0_6.stage (cfg0.slots t 6)).view.read (Elt F) f6) := by
    intro h0
    rw [hg0, hf5, hf6]
    exact hB t rfl (by rw [← (idx t).2.2.2.2.2.2.2.2.2]; exact h0)
  iapply ((body_run Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) f0 f1 f2 f3 f4 f5 f6 f7 g0 g1 g2 g3 g4 Set.univ hcarry).trans (wp_wand _ _ _)) $$ [H0 H1 H2 H3 H4 H5 H6 H7 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    iexact HS4
  iintro %_ ⟨H0, H1, H2, H3, H4, H5, H6, %k7, %k0, H7, HS0, ⟨%k1, HS1⟩, ⟨%k2, HS2⟩, ⟨%k3, HS3⟩, ⟨%k4, HS4⟩, %hb, %ho⟩
  rw [hf5, hf6] at hb
  rw [hf0, hf1, hf2, hf3, hf4, hb] at ho
  isplitl [HS0 HS1 HS2 HS3 HS4 Hg]
  · isplitl [HS0]
    · iexists tables m c t
      isplitr
      · ipureintro
        intro t' h4 h5
        exact tables_next m c t t' (by omega)
      · iexists k0; isplitr; · (ipureintro; exact hb)
        iexact HS0
    isplitl [HS1]
    · iexists _, k1; isplitr; · (ipureintro; rfl)
      iexact HS1
    isplitl [HS2]
    · iexists _, k2; isplitr; · (ipureintro; rfl)
      iexact HS2
    isplitl [HS3]
    · iexists _, k3; isplitr; · (ipureintro; rfl)
      iexact HS3
    isplitl [HS4]
    · iexists _, k4; isplitr; · (ipureintro; rfl)
      iexact HS4
    iexact Hg
  isplitl [Ho]; · iexact Ho
  isplitl [H0]
  · iexists f0; isplitr; · (ipureintro; exact hf0)
    iexact H0
  isplitl [H1]
  · iexists f1; isplitr; · (ipureintro; exact hf1)
    iexact H1
  isplitl [H2]
  · iexists f2; isplitr; · (ipureintro; exact hf2)
    iexact H2
  isplitl [H3]
  · iexists f3; isplitr; · (ipureintro; exact hf3)
    iexact H3
  isplitl [H4]
  · iexists f4; isplitr; · (ipureintro; exact hf4)
    iexact H4
  isplitl [H5]
  · iexists f5; isplitr; · (ipureintro; exact hf5)
    iexact H5
  isplitl [H6]
  · iexists f6; isplitr; · (ipureintro; exact hf6)
    iexact H6
  iexists k7; isplitr; · (ipureintro; exact block_of_rows m c t _ ho)
  iexact H7

/-- The body table's entry at a point is the point's body. -/
theorem row_at (t : Fin cfg0.N) : defs₀ (F := F) .tc cfg0.body (cfg0.bodyArgs t (cfg0.slots t)) = bodyAt0 t := by
  unfold defs₀; rw [Defs.onTc_tc]

/-- The library's obligation on the body. -/
theorem body_obligation (c : Dev nD) : BodyObligation (dats (F := F) m 0 c) (defs₀ (F := F)) Variants.none () Set.univ := fun t => by
  rw [bigSep_W0, bigSep_W0, row_at]
  exact triple_restated (sound_body m c t) rfl .rfl fun _ => .rfl

/-- What the region is entered with is the invariant before the first point. -/
theorem enter (c : Dev nD) : Pipeline.ΦA spec0 c ⊢ (dats m 0 c).Φ 0 := by
  rw [show (dats m 0 c).Φ 0 = Carry m c 0 from rfl, start_eq]
  unfold Carry
  iintro ⟨⟨⟨%d, H0⟩, H1, H2, H3, H4⟩, Hg⟩
  isplitl [H0]
  · iexists d; isplitr
    · ipureintro; intro t h0 h1; exact absurd rfl h1
    iexact H0
  isplitl [H1]; · iexact H1
  isplitl [H2]; · iexact H2
  isplitl [H3]; · iexact H3
  isplitl [H4]; · iexact H4
  iexact Hg

/-- After the last point the scratch buffers are given back. -/
theorem leave (c : Dev nD) : (dats m 0 c).Φ (Fin.last cfg0.N) ⊢ Pipeline.ΦA spec0 c := by
  rw [show (dats m 0 c).Φ (Fin.last cfg0.N) = Carry m c (Fin.last cfg0.N).val from rfl, start_eq]
  unfold Carry
  iintro ⟨⟨%d, %hd, H0⟩, H1, H2, H3, H4, Hg⟩
  isplitl [H0 H1 H2 H3 H4]
  · isplitl [H0]
    · iexists d; iexact H0
    isplitl [H1]; · iexact H1
    isplitl [H2]; · iexact H2
    isplitl [H3]; · iexact H3
    iexact H4
  iexact Hg

set_option backward.isDefEq.respectTransparency.types false in
/-- The run of the whole program: it ends, every array at what the proof data says, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The arguments end as they began, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Na

end
end
-- ==== Proof.NaRef.lean ====
/- The reference's neighbourhood attention, its result written as one composition of named stages. -/
module

public import proofs.«01_k».proof.Proof.Gen.ReferenceIdeal.Run
public import Idealize.ShloMosaic.Lib.Pointwise
public import Idealize.ShloMosaic.Lib.Pipeline.ValueKit

@[expose] public section

set_option maxRecDepth 16384
set_option maxHeartbeats 1000000

noncomputable section

namespace Cert.NaRef

open Idealize.ShloMosaic Idealize.ShloMosaic.TcCoe Idealize.ShloMosaic.Tactic
open Cert.ReferenceIdeal Cert.ReferenceIdeal.Gen
open Idealize.SL.Sem

/-! The reference's steps, each under a name. -/

/-- Image tokens split into heads, rows and columns. -/
def heads (x : FVec Ideal S4x4096x512 .bf16) : FVec Ideal S4x8x64x64x64 .f32 :=
  shapeCast S4x8x64x64x64 (transpose S4x8x4096x64 [0, 2, 1, 3]
    (shapeCast S4x4096x8x64 (extf .f32 x bitsLt_bf16_f32) shapeCasts_S4x4096x512_S4x4096x8x64)
    transposes_S4x4096x8x64_S4x8x4096x64_0_2_1_3) shapeCasts_S4x8x4096x64_S4x8x64x64x64

/-- Context tokens split into heads. -/
def ctxHeads (x : FVec Ideal S4x256x512 .bf16) : FVec Ideal S4x8x256x64 .f32 :=
  transpose S4x8x256x64 [0, 2, 1, 3] (shapeCast S4x256x8x64 (extf .f32 x bitsLt_bf16_f32) shapeCasts_S4x256x512_S4x256x8x64)
    transposes_S4x256x8x64_S4x8x256x64_0_2_1_3

/-- A vector of indices held between two bounds. -/
def clip64 (x : IVec S64 32) (a b : BitVec 32) : IVec S64 32 :=
  minsi (broadcastInDim S64 ![] bcast_S_S64 (id (constantI S_ 32 b)))
    (maxsi (broadcastInDim S64 ![] bcast_S_S64 (id (constantI S_ 32 a))) x)

/-- The image rows each query row looks at. -/
def keyRows : IVec S64x8 32 :=
  addi (broadcastInDim S64x8 ![0, 1] bcast_S64x1_S64x8_0_1 (broadcastInDim S64x1 ![0] bcast_S64_S64x1_0
      (clip64 (subi (iotaInDim S64 32 0) (broadcastInDim S64 ![] bcast_S_S64 (constantI S_ 32 4#32))) 0#32 56#32)))
    (broadcastInDim S64x8 ![0, 1] bcast_S1x8_S64x8_0_1 (broadcastInDim S1x8 ![1] bcast_S8_S1x8_1 (iotaInDim S8 32 0)))

/-- Those rows as gather indices. -/
def rowIdx : IVec S64x8x1 32 :=
  broadcastInDim S64x8x1 ![0, 1] bcast_S64x8_S64x8x1_0_1
    (select (cmpi .slt keyRows (broadcastInDim S64x8 ![] bcast_S_S64x8 (constantI S_ 32 0#32)))
      (addi keyRows (broadcastInDim S64x8 ![] bcast_S_S64x8 (constantI S_ 32 64#32))) keyRows)

/-- The first image column each query column looks at. -/
def colStart : IVec S64 32 :=
  clip64 (subi (iotaInDim S64 32 0) (broadcastInDim S64 ![] bcast_S_S64 (constantI S_ 32 8#32))) 0#32 48#32

/-- Whether a key column lies in a query column's window. -/
def inWin : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colStart)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 colStart)
        (broadcastInDim S64x1 ![] bcast_S_S64x1 (constantI S_ 32 16#32)))))

/-- The row of the bias array for each query row and row of its window. -/
def dr : IVec S64x8 32 :=
  subi (addi (subi keyRows (broadcastInDim S64x8 ![0, 1] bcast_S64x1_S64x8_0_1 (broadcastInDim S64x1 ![0] bcast_S64_S64x1_0 (iotaInDim S64 32 0))))
      (broadcastInDim S64x8 ![] bcast_S_S64x8 (constantI S_ 32 8#32))) (broadcastInDim S64x8 ![] bcast_S_S64x8 (constantI S_ 32 1#32))

/-- The column of the bias array for each query column and key column. -/
def dc : IVec S64x64 32 :=
  minsi (broadcastInDim S64x64 ![] bcast_S_S64x64 (id (constantI S_ 32 30#32)))
    (maxsi (broadcastInDim S64x64 ![] bcast_S_S64x64 (id (constantI S_ 32 0#32)))
      (subi (addi (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))
        (broadcastInDim S64x64 ![] bcast_S_S64x64 (constantI S_ 32 16#32))) (broadcastInDim S64x64 ![] bcast_S_S64x64 (constantI S_ 32 1#32))))

/-- The bias row as a gather index. -/
def drIdx : IVec S64x1x8x1 32 :=
  select (cmpi .slt (broadcastInDim S64x1x8x1 ![0, 2] bcast_S64x8_S64x1x8x1_0_2 dr) (broadcastInDim S64x1x8x1 ![] bcast_S_S64x1x8x1 (constantI S_ 32 0#32)))
    (addi (broadcastInDim S64x1x8x1 ![0, 2] bcast_S64x8_S64x1x8x1_0_2 dr) (broadcastInDim S64x1x8x1 ![] bcast_S_S64x1x8x1 (constantI S_ 32 15#32)))
    (broadcastInDim S64x1x8x1 ![0, 2] bcast_S64x8_S64x1x8x1_0_2 dr)

/-- The bias column as a gather index. -/
def dcIdx : IVec S1x64x1x64 32 :=
  select (cmpi .slt (broadcastInDim S1x64x1x64 ![1, 3] bcast_S64x64_S1x64x1x64_1_3 dc) (broadcastInDim S1x64x1x64 ![] bcast_S_S1x64x1x64 (constantI S_ 32 0#32)))
    (addi (broadcastInDim S1x64x1x64 ![1, 3] bcast_S64x64_S1x64x1x64_1_3 dc) (broadcastInDim S1x64x1x64 ![] bcast_S_S1x64x1x64 (constantI S_ 32 31#32)))
    (broadcastInDim S1x64x1x64 ![1, 3] bcast_S64x64_S1x64x1x64_1_3 dc)

/-- The bias indices, row and column. -/
def biasIdx : IVec S64x64x8x64x2 32 :=
  concatenate S64x64x8x64x2 4 [⟨S64x64x8x64x1, broadcastInDim S64x64x8x64x1 ![0, 1, 2, 3] bcast_S64x64x8x64_S64x64x8x64x1_0_1_2_3
      (broadcastInDim S64x64x8x64 ![0, 1, 2, 3] bcast_S64x1x8x1_S64x64x8x64_0_1_2_3 drIdx)⟩,
    ⟨S64x64x8x64x1, broadcastInDim S64x64x8x64x1 ![0, 1, 2, 3] bcast_S64x64x8x64_S64x64x8x64x1_0_1_2_3
      (broadcastInDim S64x64x8x64 ![0, 1, 2, 3] bcast_S1x64x1x64_S64x64x8x64_0_1_2_3 dcIdx)⟩]
    concatenates_S64x64x8x64x1_S64x64x8x64x1_S64x64x8x64x2_d4

/-- The bias of every query token, window row and key column. -/
def bias (rpb : FVec Ideal S1x8x15x31 .f32) : FVec Ideal S8x64x64x8x64 .f32 :=
  Host.gather gather_S8x15x31_S64x64x8x64x2_S8x64x64x8x64_0_12_n_n_12_4_811 (shapeCast S8x15x31 rpb shapeCasts_S1x8x15x31_S8x15x31) biasIdx

/-- The rows of keys (or values) each query row looks at. -/
def nbh (k : FVec Ideal S4x8x64x64x64 .f32) : FVec Ideal S4x8x64x8x64x64 .f32 :=
  Host.gather gather_S4x8x64x64x64_S64x8x1_S4x8x64x8x64x64_0145_2_n_n_2_2_4816464 k rowIdx

/-- The scores against the window. -/
def win (q k : FVec Ideal S4x8x64x64x64 .f32) (rpb : FVec Ideal S1x8x15x31 .f32) : FVec Ideal S4x8x64x64x8x64 .f32 :=
  select (broadcastInDim S4x8x64x64x8x64 ![3, 4, 5] bcast_S64x1x64_S4x8x64x64x8x64_3_4_5 (broadcastInDim S64x1x64 ![0, 2] bcast_S64x64_S64x1x64_0_2 inWin))
    (addf (mulf (Host.dotGeneral dot_S4x8x64x64x64_S4x8x64x8x64x64_S4x8x64x64x8x64_4_5_3_34_012_012 none q (nbh k))
        (broadcastInDim S4x8x64x64x8x64 ![] bcast_S_S4x8x64x64x8x64 (constant S_ .f32 0x3E000000#32)))
      (broadcastInDim S4x8x64x64x8x64 ![0, 1, 2, 3, 4, 5] bcast_S1x8x64x64x8x64_S4x8x64x64x8x64_0_1_2_3_4_5
        (broadcastInDim S1x8x64x64x8x64 ![1, 2, 3, 4, 5] bcast_S8x64x64x8x64_S1x8x64x64x8x64_1_2_3_4_5 (bias rpb))))
    (broadcastInDim S4x8x64x64x8x64 ![] bcast_S_S4x8x64x64x8x64 (id (constant S_ .f32 0xFF800000#32)))

/-- The scores against the context. -/
def ctx (q : FVec Ideal S4x8x64x64x64 .f32) (kc : FVec Ideal S4x8x256x64 .f32) : FVec Ideal S4x8x64x64x256 .f32 :=
  mulf (Host.dotGeneral dot_S4x8x64x64x64_S4x8x256x64_S4x8x64x64x256_4_3_23_2_01_01 none q kc)
    (broadcastInDim S4x8x64x64x256 ![] bcast_S_S4x8x64x64x256 (constant S_ .f32 0x3E000000#32))

/-- Both, one after the other. -/
def scores (w : FVec Ideal S4x8x64x64x8x64 .f32) (c : FVec Ideal S4x8x64x64x256 .f32) : FVec Ideal S4x8x64x64x768 .f32 :=
  concatenate S4x8x64x64x768 4 [⟨S4x8x64x64x512, shapeCast S4x8x64x64x512 w shapeCasts_S4x8x64x64x8x64_S4x8x64x64x512⟩, ⟨S4x8x64x64x256, c⟩]
    concatenates_S4x8x64x64x512_S4x8x64x64x256_S4x8x64x64x768_d4

/-- The greatest score of each query token. -/
def greatest (s : FVec Ideal S4x8x64x64x768 .f32) : FVec Ideal S4x8x64x64 .f32 :=
  maximumf (broadcastInDim S4x8x64x64 ![] bcast_S_S4x8x64x64 (constant S_ .f32 0xFF800000#32))
    (Host.reduce FloatOps.maximumf s (constant S_ .f32 0xFF800000#32) reducesTo_S4x8x64x64x768_S4x8x64x64_d4 h_S_)

/-- The exponentials of the scores less their row's greatest. -/
def exps (s : FVec Ideal S4x8x64x64x768 .f32) : FVec Ideal S4x8x64x64x768 .f32 :=
  Host.exp (subf s (broadcastInDim S4x8x64x64x768 ![0, 1, 2, 3, 4] bcast_S4x8x64x64x1_S4x8x64x64x768_0_1_2_3_4
    (broadcastInDim S4x8x64x64x1 ![0, 1, 2, 3] bcast_S4x8x64x64_S4x8x64x64x1_0_1_2_3 (greatest s))))

/-- The softmax of the scores. -/
def soft (e : FVec Ideal S4x8x64x64x768 .f32) : FVec Ideal S4x8x64x64x768 .f32 :=
  Host.divf e (broadcastInDim S4x8x64x64x768 ![0, 1, 2, 3, 4] bcast_S4x8x64x64x1_S4x8x64x64x768_0_1_2_3_4
    (broadcastInDim S4x8x64x64x1 ![0, 1, 2, 3] bcast_S4x8x64x64_S4x8x64x64x1_0_1_2_3
      (Host.reduceAdd e (constant S_ .f32 0x00000000#32) reducesTo_S4x8x64x64x768_S4x8x64x64_d4 h_S_)))

/-- The values weighted by the softmax. -/
def mix (p : FVec Ideal S4x8x64x64x768 .f32) (v : FVec Ideal S4x8x64x64x64 .f32) (vc : FVec Ideal S4x8x256x64 .f32) : FVec Ideal S4x8x64x64x64 .f32 :=
  addf (Host.dotGeneral dot_S4x8x64x64x8x64_S4x8x64x8x64x64_S4x8x64x64x64_45_34_3_5_012_012 none
      (shapeCast S4x8x64x64x8x64 (extractStridedSlice S4x8x64x64x512 ![0, 0, 0, 0, 0] p slices_S4x8x64x64x768_S4x8x64x64x512_0_0_0_0_0)
        shapeCasts_S4x8x64x64x512_S4x8x64x64x8x64) (nbh v))
    (Host.dotGeneral dot_S4x8x64x64x256_S4x8x256x64_S4x8x64x64x64_4_2_23_3_01_01 none
      (extractStridedSlice S4x8x64x64x256 ![0, 0, 0, 0, 512] p slices_S4x8x64x64x768_S4x8x64x64x256_0_0_0_0_512) vc)

/-- Heads, rows and columns put back into tokens. -/
def merge (o : FVec Ideal S4x8x64x64x64 .f32) : FVec Ideal S4x4096x512 .bf16 :=
  truncf .bf16 (shapeCast S4x4096x512 (transpose S4x4096x8x64 [0, 2, 1, 3] (shapeCast S4x8x4096x64 o shapeCasts_S4x8x64x64x64_S4x8x4096x64)
    transposes_S4x8x4096x64_S4x4096x8x64_0_2_1_3) shapeCasts_S4x4096x8x64_S4x4096x512) bitsLt_bf16_f32

/-- The reference as a function of its arguments. -/
def whole (q k v : FVec Ideal S4x4096x512 .bf16) (kc vc : FVec Ideal S4x256x512 .bf16) (rpb : FVec Ideal S1x8x15x31 .f32) : FVec Ideal S4x4096x512 .bf16 :=
  merge (mix (soft (exps (scores (win (heads q) (heads k) rpb) (ctx (heads q) (ctxHeads kc))))) (heads v) (ctxHeads vc))

/-- The reference's result is the composition of its stages. -/
theorem res_eq (m : (ℓ : Loc nD τ sig) → Buf (Elt Ideal) ℓ) (c : Dev nD) :
    Cert.ReferenceIdeal.Value.res_main_v128 (F := Ideal) m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v128
  rfl

end Cert.NaRef

end
end
-- ==== Proof.NaRefAt.lean ====
/- The stages of the reference's neighbourhood attention, entry by entry. -/
module

public import proofs.«01_k».proof.Proof.NaRef
public import Idealize.ShloMosaic.Lib.Pointwise
public import Idealize.ShloMosaic.Lib.Pipeline.ValueKit

@[expose] public section

set_option maxRecDepth 16384
set_option maxHeartbeats 1000000

noncomputable section

namespace Cert.NaRef

open Idealize.ShloMosaic Idealize.ShloMosaic.TcCoe Idealize.ShloMosaic.Tactic
open Cert.ReferenceIdeal Cert.ReferenceIdeal.Gen
open Idealize.SL.Sem

/-! The reference's steps at an entry. -/

/-- The first of the eight image rows that query row `r` looks at. -/
abbrev rowStart (r : ℕ) : ℕ := min 56 (r - 4)

/-- Whether key column `x` lies in the window of query column `w`. -/
abbrev colOk (w x : ℕ) : Prop := min 48 (w - 8) ≤ x ∧ x < min 48 (w - 8) + 16

/-- An entry of the split into heads, by image row and column. -/
theorem heads_at (x : FVec Ideal S4x4096x512 .bf16) (b : Fin 4) (h : Fin 8) (r w d : Fin 64) :
    heads x (ix5 b h r w d) = x (ix3 b (⟨r.val * 64 + w.val, by omega⟩ : Fin 4096) (⟨h.val * 64 + d.val, by omega⟩ : Fin 512)) := by
  unfold heads
  pointwise

/-- An entry of the context's split into heads. -/
theorem ctxHeads_at (x : FVec Ideal S4x256x512 .bf16) (b : Fin 4) (h : Fin 8) (n : Fin 256) (d : Fin 64) :
    ctxHeads x (ix4 b h n d) = x (ix3 b n (⟨h.val * 64 + d.val, by omega⟩ : Fin 512)) := by
  unfold ctxHeads
  pointwise

/-- The image row a gather of keys reads. -/
theorem rowIdx_at : ∀ (r : Fin 64) (κ : Fin 8), min (rowIdx (ix3 r κ (0 : Fin 1))).toInt.toNat 63 = rowStart r.val + κ.val := by
  intro r κ
  unfold rowIdx keyRows clip64
  pointwise
  simp only [constantI, id]
  revert r κ
  decide +kernel

/-- A gather of image rows reads the row its index names. -/
theorem gather_rows {α : Type} (k : S4x8x64x64x64.Idx → α) (idx : IVec S64x8x1 32) (b : Fin 4) (h : Fin 8) (r : Fin 64) (κ : Fin 8) (x d : Fin 64) :
    Host.gather gather_S4x8x64x64x64_S64x8x1_S4x8x64x8x64x64_0145_2_n_n_2_2_4816464 k idx (ix6 b h r κ x d)
      = k (ix5 b h (⟨min (idx (ix3 r κ (0 : Fin 1))).toInt.toNat 63, by omega⟩ : Fin 64) x d) := by
  unfold Host.gather
  refine congrArg k (funext fun a => Fin.ext ?_)
  fin_cases a
  · show 0 + 0 + b.val = b.val; omega
  · show 0 + 0 + h.val = h.val; omega
  · show min (idx (GatherDims.siIdx _ (ix6 b h r κ x d) ⟨0, _⟩)).toInt.toNat 63 + 0 + 0 = min (idx (ix3 r κ (0 : Fin 1))).toInt.toNat 63
    refine congrArg (fun z => min (idx z).toInt.toNat 63) (funext fun e => Fin.ext ?_)
    fin_cases e <;> rfl
  · show 0 + 0 + x.val = x.val; omega
  · show 0 + 0 + d.val = d.val; omega

/-- A gather of biases reads the row and column its index names. -/
theorem gather_bias {α : Type} (t : S8x15x31.Idx → α) (idx : IVec S64x64x8x64x2 32) (h : Fin 8) (r w : Fin 64) (κ : Fin 8) (x : Fin 64) :
    Host.gather gather_S8x15x31_S64x64x8x64x2_S8x64x64x8x64_0_12_n_n_12_4_811 t idx (ix5 h r w κ x)
      = t (ix3 h (⟨min (idx (ix5 r w κ x (0 : Fin 2))).toInt.toNat 14, by omega⟩ : Fin 15)
        (⟨min (idx (ix5 r w κ x (1 : Fin 2))).toInt.toNat 30, by omega⟩ : Fin 31)) := by
  unfold Host.gather
  refine congrArg t (funext fun a => Fin.ext ?_)
  fin_cases a
  · show 0 + 0 + h.val = h.val; omega
  · show min (idx (GatherDims.siIdx _ (ix5 h r w κ x) ⟨0, _⟩)).toInt.toNat 14 + 0 + 0 = _
    refine congrArg (fun z => min (idx z).toInt.toNat 14) (funext fun e => Fin.ext ?_)
    fin_cases e <;> rfl
  · show min (idx (GatherDims.siIdx _ (ix5 h r w κ x) ⟨1, _⟩)).toInt.toNat 30 + 0 + 0 = _
    refine congrArg (fun z => min (idx z).toInt.toNat 30) (funext fun e => Fin.ext ?_)
    fin_cases e <;> rfl

/-- The eight gathered rows, entry by entry. -/
theorem nbh_at (k : FVec Ideal S4x8x64x64x64 .f32) (b : Fin 4) (h : Fin 8) (r : Fin 64) (κ : Fin 8) (x d : Fin 64) :
    nbh k (ix6 b h r κ x d) = k (ix5 b h (⟨rowStart r.val + κ.val, by unfold rowStart; omega⟩ : Fin 64) x d) := by
  unfold nbh
  rw [gather_rows]
  exact congrArg (fun n => k (ix5 b h n x d)) (Fin.ext (rowIdx_at r κ))

/-- Whether a column is inside the window. -/
theorem inWin_at : ∀ w x : Fin 64, inWin (ix2 w x) = if colOk w.val x.val then 1#1 else 0#1 := by
  intro w x
  unfold inWin colStart clip64
  pointwise
  simp only [constantI, id]
  revert w x
  decide +kernel

/-- The row of the bias table a key reads. -/
theorem biasIdx_row : ∀ (r w : Fin 64) (κ : Fin 8) (x : Fin 64),
    min (biasIdx (ix5 r w κ x (0 : Fin 2))).toInt.toNat 14 = rowStart r.val + κ.val + 7 - r.val := by
  intro r w κ x
  unfold biasIdx drIdx dr keyRows clip64
  pointwise
  simp only [constantI, id]
  clear w x
  revert r κ
  decide +kernel

/-- The column of the bias table a key reads. -/
theorem biasIdx_col : ∀ (r w : Fin 64) (κ : Fin 8) (x : Fin 64),
    min (biasIdx (ix5 r w κ x (1 : Fin 2))).toInt.toNat 30 = min 30 (x.val + 15 - w.val) := by
  intro r w κ x
  unfold biasIdx dcIdx dc
  pointwise
  simp only [constantI, id]
  clear r κ
  revert w x
  decide +kernel

/-- The relative bias of a query and a key. -/
theorem bias_at (rpb : FVec Ideal S1x8x15x31 .f32) (h : Fin 8) (r w : Fin 64) (κ : Fin 8) (x : Fin 64) :
    bias rpb (ix5 h r w κ x) = rpb (ix4 (0 : Fin 1) h (⟨rowStart r.val + κ.val + 7 - r.val, by unfold rowStart; omega⟩ : Fin 15)
      (⟨min 30 (x.val + 15 - w.val), by omega⟩ : Fin 31)) := by
  unfold bias
  rw [gather_bias]
  have e : ∀ (i : Fin 15) (j : Fin 31), shapeCast S8x15x31 rpb shapeCasts_S1x8x15x31_S8x15x31 (ix3 h i j) = rpb (ix4 (0 : Fin 1) h i j) := by
    intro i j
    pointwise
  rw [e]
  exact congrArg₂ (fun i j => rpb (ix4 (0 : Fin 1) h i j)) (Fin.ext (biasIdx_row r w κ x)) (Fin.ext (biasIdx_col r w κ x))

/-- One eighth, the scale of the scores. -/
abbrev eighth : EReal := Ideal.ofBits .f32 0x3E000000#32

/-- A window score of the reference. -/
theorem win_at (q k : FVec Ideal S4x8x64x64x64 .f32) (rpb : FVec Ideal S1x8x15x31 .f32) (b : Fin 4) (h : Fin 8) (r w : Fin 64) (κ : Fin 8) (x : Fin 64) :
    win q k rpb (ix6 b h r w κ x) = if colOk w.val x.val then
      (∑ d : Fin 64, q (ix5 b h r w d) * k (ix5 b h (⟨rowStart r.val + κ.val, by unfold rowStart; omega⟩ : Fin 64) x d)) * eighth
        + rpb (ix4 (0 : Fin 1) h (⟨rowStart r.val + κ.val + 7 - r.val, by unfold rowStart; omega⟩ : Fin 15) (⟨min 30 (x.val + 15 - w.val), by omega⟩ : Fin 31))
      else Ideal.ofBits .f32 0xFF800000#32 := by
  unfold win
  pointwise
  simp only [nbh_at, bias_at, inWin_at]
  by_cases hc : colOk w.val x.val
  · rw [if_pos hc, if_pos hc]; rfl
  · rw [if_neg hc, if_neg hc]; rfl

/-- A context score of the reference. -/
theorem ctx_at (q : FVec Ideal S4x8x64x64x64 .f32) (kc : FVec Ideal S4x8x256x64 .f32) (b : Fin 4) (h : Fin 8) (r w : Fin 64) (n : Fin 256) :
    ctx q kc (ix5 b h r w n) = (∑ d : Fin 64, q (ix5 b h r w d) * kc (ix4 b h n d)) * eighth := by
  unfold ctx
  pointwise

/-- The joined scores at a window key. -/
theorem scores_win (s : FVec Ideal S4x8x64x64x8x64 .f32) (c : FVec Ideal S4x8x64x64x256 .f32) (b : Fin 4) (h : Fin 8) (r w : Fin 64) (κ : Fin 8) (x : Fin 64) :
    scores s c (ix5 b h r w (⟨κ.val * 64 + x.val, by omega⟩ : Fin 768)) = s (ix6 b h r w κ x) := by
  unfold scores
  pointwise
  rw [dif_pos (by omega)]

/-- The joined scores at a context key. -/
theorem scores_ctx (s : FVec Ideal S4x8x64x64x8x64 .f32) (c : FVec Ideal S4x8x64x64x256 .f32) (b : Fin 4) (h : Fin 8) (r w : Fin 64) (n : Fin 256) :
    scores s c (ix5 b h r w (⟨512 + n.val, by omega⟩ : Fin 768)) = c (ix5 b h r w n) := by
  unfold scores
  pointwise

/-- The reduction by maximum of a row, as a fold. -/
theorem rowMax_at (s : FVec Ideal S4x8x64x64x768 .f32) (b : Fin 4) (h : Fin 8) (r w : Fin 64) :
    Host.reduce FloatOps.maximumf s (constant S_ .f32 0xFF800000#32) reducesTo_S4x8x64x64x768_S4x8x64x64_d4 h_S_ (ix4 b h r w) =
     Finset.univ.fold max (Ideal.ofBits .f32 0xFF800000#32) fun n' : Fin 768 => s (ix5 b h r w n') := by
  pointwise

/-- The maximum with minus infinity, entry by entry. -/
theorem max_at (v : FVec Ideal S4x8x64x64 .f32) (b : Fin 4) (h : Fin 8) (r w : Fin 64) :
    maximumf (broadcastInDim S4x8x64x64 ![] bcast_S_S4x8x64x64 (constant S_ .f32 0xFF800000#32)) v (ix4 b h r w) = max (Ideal.ofBits .f32 0xFF800000#32) (v (ix4 b h r w)) := by
  pointwise

/-- The greatest score of a row of the reference. -/
theorem greatest_at (s : FVec Ideal S4x8x64x64x768 .f32) (b : Fin 4) (h : Fin 8) (r w : Fin 64) :
    greatest s (ix4 b h r w) = max (Ideal.ofBits .f32 0xFF800000#32)
      (Finset.univ.fold max (Ideal.ofBits .f32 0xFF800000#32) fun n' : Fin 768 => s (ix5 b h r w n')) := by
  unfold greatest
  rw [max_at, rowMax_at]

/-- The exponential of a score of the reference. -/
theorem exps_at (s : FVec Ideal S4x8x64x64x768 .f32) (b : Fin 4) (h : Fin 8) (r w : Fin 64) (n : Fin 768) :
    exps s (ix5 b h r w n) = Ideal.exp (s (ix5 b h r w n) - greatest s (ix4 b h r w)) := by
  unfold exps
  pointwise

/-- A weight of the reference: its exponential over the row's sum. -/
theorem soft_at (e : FVec Ideal S4x8x64x64x768 .f32) (b : Fin 4) (h : Fin 8) (r w : Fin 64) (n : Fin 768) :
    soft e (ix5 b h r w n) = Ideal.div (e (ix5 b h r w n)) (∑ n' : Fin 768, e (ix5 b h r w n')) := by
  unfold soft
  pointwise

/-- The weights' mix of the values and the context values. -/
theorem mix_at (p : FVec Ideal S4x8x64x64x768 .f32) (v : FVec Ideal S4x8x64x64x64 .f32) (vc : FVec Ideal S4x8x256x64 .f32)
    (b : Fin 4) (h : Fin 8) (r w d : Fin 64) :
    mix p v vc (ix5 b h r w d) = (∑ κ : Fin 8, ∑ x : Fin 64, p (ix5 b h r w (⟨κ.val * 64 + x.val, by omega⟩ : Fin 768))
        * v (ix5 b h (⟨rowStart r.val + κ.val, by unfold rowStart; omega⟩ : Fin 64) x d))
      + ∑ n : Fin 256, p (ix5 b h r w (⟨512 + n.val, by omega⟩ : Fin 768)) * vc (ix4 b h n d) := by
  unfold mix
  pointwise
  simp only [nbh_at]

/-- An entry of the merge of the heads. -/
theorem merge_at (o : FVec Ideal S4x8x64x64x64 .f32) (b : Fin 4) (h : Fin 8) (r w d : Fin 64) :
    merge o (ix3 b (⟨r.val * 64 + w.val, by omega⟩ : Fin 4096) (⟨h.val * 64 + d.val, by omega⟩ : Fin 512)) = o (ix5 b h r w d) := by
  unfold merge
  pointwise

end Cert.NaRef

end
end
-- ==== Proof.NaTab.lean ====
/- The bias table and the row mask that the host code builds, entry by entry. -/
module

public import proofs.«01_k».proof.Proof.NaFrame
public import proofs.«01_k».proof.Proof.NaRefAt
public import Idealize.ShloMosaic.Lib.Pipeline.ValueKit
public import Idealize.ShloMosaic.Lib.Pointwise

@[expose] public section

set_option maxRecDepth 16384
set_option maxHeartbeats 1000000

noncomputable section

namespace Cert.Na

open Idealize.ShloMosaic Idealize.ShloMosaic.TcCoe Idealize.ShloMosaic.Tactic
open Idealize.SL.Sem
open Cert.KernelIdeal Cert.KernelIdeal.Gen
open Cert.NaRef (colOk rowStart)

variable (m : (ℓ : Loc nD τ sig) → Buf (Elt Ideal) ℓ) (c : Dev nD)

/-! The tables the host builds for the bias, entry by entry. -/

/-- Minus infinity, as the kernel writes it. -/
abbrev negInf : EReal := Ideal.ofBits .f32 0xFF800000#32

/-- The first column of query `w`'s window, and the end of it, in the host's 32-bit arithmetic. -/
abbrev colLo (w : ℕ) : BitVec 32 :=
  IntOp.minsi (id (constantI S_ 32 48#32) ix0) (IntOp.maxsi (id (constantI S_ 32 0#32) ix0) (IntOp.subi (BitVec.ofNat 32 w) 8#32))

/-- The host's test that key column `x` is in query `w`'s window. -/
abbrev okBit (w x : ℕ) : BitVec 1 :=
  IntOp.andi (IntOp.cmpi .sge (BitVec.ofNat 32 x) (colLo w)) (IntOp.cmpi .slt (BitVec.ofNat 32 x) (IntOp.addi (colLo w) 16#32))

/-- The host's relative column of key `x` against query `w`. -/
abbrev dcBits (w x : ℕ) : BitVec 32 :=
  IntOp.minsi (id (constantI S_ 32 30#32) ix0) (IntOp.maxsi (id (constantI S_ 32 0#32) ix0)
    (IntOp.subi (IntOp.addi (IntOp.subi (BitVec.ofNat 32 x) (BitVec.ofNat 32 w)) 16#32) 1#32))

/-- The host's column test, as a proposition. -/
theorem okBit_eq : ∀ w x : Fin 64, okBit w.val x.val = if colOk w.val x.val then 1#1 else 0#1 := by
  intro w x
  unfold okBit colLo
  simp only [constantI, id]
  revert w x
  decide +kernel

/-- The host's column offset, as a number. -/
theorem dcBits_eq : ∀ w x : Fin 64, dcBits w.val x.val = BitVec.ofNat 32 (min 30 (x.val + 15 - w.val)) := by
  intro w x
  unfold dcBits
  simp only [constantI, id]
  revert w x
  decide +kernel

/-- A selection whose bit is one. -/
theorem select_one (a b : EReal) : Scalar.select 1#1 a b = a := rfl

/-- The one-hot test at two column offsets. -/
theorem hot_eq : ∀ a b : Fin 31, IntOp.andi (IntOp.cmpi .eq (BitVec.ofNat 32 a.val) (BitVec.ofNat 32 b.val)) 1#1 = if a = b then 1#1 else 0#1 := by
  decide +kernel

/-- The bit one as a float. -/
theorem uitofp_one : (FloatOps.uitofp (F := Ideal) .f32 (1#1 : BitVec 1) : EReal) = 1 := by
  show ((((1#1 : BitVec 1).toNat : ℝ) : EReal)) = 1
  simp

/-- The bit zero as a float. -/
theorem uitofp_zero : (FloatOps.uitofp (F := Ideal) .f32 (0#1 : BitVec 1) : EReal) = 0 := by
  show ((((0#1 : BitVec 1).toNat : ℝ) : EReal)) = 0
  simp

/-- The sum against the one-hot column picks the relative column's entry; out of the window the table has minus infinity. -/
theorem oneHot (w x : Fin 64) (f : Fin 31 → EReal) (g : EReal) :
    Scalar.select (okBit w.val x.val)
      (∑ j : Fin 31, FloatOps.uitofp (F := Ideal) .f32 (IntOp.andi (IntOp.cmpi .eq (BitVec.ofNat 32 j.val) (dcBits w.val x.val)) (okBit w.val x.val)) * f j) g
      = if colOk w.val x.val then f ⟨min 30 (x.val + 15 - w.val), by omega⟩ else g := by
  rw [okBit_eq, dcBits_eq]
  by_cases h : colOk w.val x.val
  · rw [if_pos h, if_pos h, select_one]
    refine (Finset.sum_eq_single (⟨min 30 (x.val + 15 - w.val), by omega⟩ : Fin 31) ?_ ?_).trans ?_
    · intro j _ hj
      rw [hot_eq j ⟨min 30 (x.val + 15 - w.val), by omega⟩, if_neg hj, uitofp_zero, zero_mul]
    · intro hj; exact absurd (Finset.mem_univ (⟨min 30 (x.val + 15 - w.val), by omega⟩ : Fin 31)) hj
    · rw [hot_eq ⟨min 30 (x.val + 15 - w.val), by omega⟩ ⟨min 30 (x.val + 15 - w.val), by omega⟩, if_pos rfl, uitofp_one, one_mul]
  · rw [if_neg h, if_neg h]; rfl

/-- The first of the twelve staged key rows that a query row with remainder `a` in a block of pattern `p` may look at. -/
abbrev off (p a : ℕ) : ℕ := if p = 0 then 0 else if p = 1 then a else 4

/-- The constant of valid rows: eight in a run among the twelve. -/
theorem lit_eq : ∀ (p : Fin 3) (a : Fin 4) (b : Fin 12),
    lit0 (S3x4x12.rowMajor (ix3 p a b)) = if off p.val a.val ≤ b.val ∧ b.val < off p.val a.val + 8 then 1#1 else 0#1 := by
  decide +kernel

/-- The row mask: nothing inside the eight rows, minus infinity outside. -/
theorem maskEntry (p : Fin 3) (a : Fin 4) (b : Fin 12) (x : Fin 64) :
    (V m c main_v52 : Vec Ideal S3x4x1x768 .f32) (ix4 p a (0 : Fin 1) (⟨b.val * 64 + x.val, by omega⟩ : Fin 768))
      = if off p.val a.val ≤ b.val ∧ b.val < off p.val a.val + 8 then (0 : EReal) else negInf := by
  show StableHlo.after _ _ _ _ = _
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.nullary,
    StableHlo.TRef.binary, StableHlo.TRef.ternary, StableHlo.TRef.unary, StableHlo.TRef.toBuf, StableHlo.TRef.ofBuf, cast_eq]
  after_results_simp
  pointwise
  rw [lit_eq]
  by_cases h : off p.val a.val ≤ b.val ∧ b.val < off p.val a.val + 8
  · rw [if_pos h, if_pos h]; rfl
  · rw [if_neg h, if_neg h]; rfl

/-- The column table: the relative bias inside the window of sixteen columns, minus infinity outside. -/
theorem tabEntry (H : Fin 8) (p : Fin 2) (w : Fin 64) (b : Fin 24) (x : Fin 64) (h4 : 4 ≤ b.val + p.val) (h19 : b.val + p.val < 19) :
    (V m c main_v48 : Vec Ideal S8x2x64x1536 .f32) (ix4 H p w (⟨b.val * 64 + x.val, by omega⟩ : Fin 1536))
      = if colOk w.val x.val then (m ((c.tc : Thread nD τ).loc main_arg5) : Vec Ideal S1x8x15x31 .f32)
          (ix4 (0 : Fin 1) H (⟨b.val + p.val - 4, by omega⟩ : Fin 15) (⟨min 30 (x.val + 15 - w.val), by omega⟩ : Fin 31))
        else negInf := by
  show StableHlo.after _ _ _ _ = _
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, StableHlo.TRef.nullary,
    StableHlo.TRef.binary, StableHlo.TRef.ternary, StableHlo.TRef.unary, StableHlo.TRef.toBuf, StableHlo.TRef.ofBuf, cast_eq]
  after_results_simp
  pointwise
  have hp := p.isLt
  by_cases h : p.val < 1
  · rw [dif_pos h, dif_pos (by omega)]
    simp only [show (b.val * 64 + x.val - 256) % 64 = x.val by omega, show (b.val * 64 + x.val - 256) / 64 = b.val + p.val - 4 by omega]
    exact oneHot w x (fun j => (m ((c.tc : Thread nD τ).loc main_arg5) : Vec Ideal S1x8x15x31 .f32) (ix4 (0 : Fin 1) H (⟨b.val + p.val - 4, by omega⟩ : Fin 15) j)) _
  · rw [dif_neg h, dif_pos (by omega)]
    simp only [show (64 + (b.val * 64 + x.val) - 256) % 64 = x.val by omega, show (64 + (b.val * 64 + x.val) - 256) / 64 = b.val + p.val - 4 by omega]
    exact oneHot w x (fun j => (m ((c.tc : Thread nD τ).loc main_arg5) : Vec Ideal S1x8x15x31 .f32) (ix4 (0 : Fin 1) H (⟨b.val + p.val - 4, by omega⟩ : Fin 15) j)) _

end Cert.Na

end
end
-- ==== Proof.NaEntry.lean ====
/- One block of the neighbourhood attention, entry by entry over the extended reals: the scores, their exponentials, and
   the result, each in terms of the head's own 64 features. -/
module

public import proofs.«01_k».proof.Proof.NaTerms
public import Idealize.ShloMosaic.Lib.Pipeline.ValueKit
public import Idealize.ShloMosaic.Lib.Pointwise

@[expose] public section

set_option maxRecDepth 16384
set_option maxHeartbeats 1000000

noncomputable section

namespace Cert.Na

open Idealize.ShloMosaic Idealize.ShloMosaic.TcCoe Idealize.ShloMosaic.Tactic
open Cert.KernelIdeal Cert.KernelIdeal.Gen
open VecWindow (window put)

/-- Lane `64·h + d` of a pair of heads: feature `d` of head `h`. -/
abbrev lane (h : Fin 2) (d : Fin 64) : Fin 128 := ⟨h.val * 64 + d.val, by omega⟩

/-- The test for the first head, at a lane of either head. -/
theorem lane_lt : ∀ (h : Fin 2) (d : Fin 64), IntOp.cmpi .slt (BitVec.ofNat 32 (h.val * 64 + d.val)) 64#32 = if h.val = 0 then 1#1 else 0#1 := by
  decide +kernel
/-- No lane of the first head is lane 64. -/
theorem lane_64 : ∀ d : Fin 64, IntOp.cmpi .eq (BitVec.ofNat 32 (lane 0 d).val) 64#32 = 0#1 := by decide +kernel
/-- No lane of the second head is lane 0. -/
theorem lane_0 : ∀ d : Fin 64, IntOp.cmpi .eq (BitVec.ofNat 32 (lane 1 d).val) 0#32 = 0#1 := by decide +kernel

/-- A sum over the 128 lanes is the two heads' sums. -/
theorem sum_lanes (g : Fin 128 → EReal) : ∑ l, g l = (∑ d, g (lane 0 d)) + ∑ d, g (lane 1 d) := by
  rw [Fin.sum_univ_tiles 2 64 rfl g, Fin.sum_univ_two]

/-- One eighth, as the kernel writes it. -/
abbrev eighthK : EReal := Ideal.ofBits .bf16 0x3E00#16

/-- The lane mask and lane counters are the ones every grid point makes. -/
structure Plain (I : Inp Ideal) : Prop where
  lo : I.lo = k0_pay79
  lanes : I.lanes = iota .tc S768x128 32 [1] iota_S768x128_d1_w32
  lanes' : I.lanes' = iota .tc S256x128 32 [1] iota_S256x128_d1_w32

/-- A window score of the first head. -/
theorem win_lo (Q : Vec Ideal S1x256x128 .bf16) (K : Vec Ideal S1x768x128 .bf16) (B : Vec Ideal S1x1x1x256x768 .f32) (r : Fin 256) (n : Fin 768) :
    k0_pay53 (k0_pay52 k0_pay79 Q K B) (ix4 (0 : Fin 1) (0 : Fin 1) r n)
      = ∑ d : Fin 64, Q (ix3 (0 : Fin 1) r (lane 0 d)) * eighthK * K (ix3 (0 : Fin 1) n (lane 0 d)) + B (ix5 (0 : Fin 1) (0 : Fin 1) (0 : Fin 1) r n) := by
  unfold k0_pay53 k0_pay52 k0_pay51 k0_pay50 k0_pay49 k0_pay79
  pointwise
  refine congrArg (· + _) ?_
  rw [sum_lanes]
  simp only [lane_lt]
  exact (congrArg₂ (fun x y : EReal => x + y) rfl (Finset.sum_eq_zero fun d _ => rfl)).trans (add_zero _)

/-- A window score of the second head. -/
theorem win_hi (Q : Vec Ideal S1x256x128 .bf16) (K : Vec Ideal S1x768x128 .bf16) (B : Vec Ideal S1x1x1x256x768 .f32) (r : Fin 256) (n : Fin 768) :
    k0_pay56 k0_pay79 (k0_pay49 Q) (k0_pay50 K) B (ix4 (0 : Fin 1) (0 : Fin 1) r n)
      = ∑ d : Fin 64, Q (ix3 (0 : Fin 1) r (lane 1 d)) * eighthK * K (ix3 (0 : Fin 1) n (lane 1 d)) + B (ix5 (0 : Fin 1) (0 : Fin 1) (0 : Fin 1) r n) := by
  unfold k0_pay56 k0_pay55 k0_pay50 k0_pay49 k0_pay79
  pointwise
  refine congrArg (· + _) ?_
  rw [sum_lanes]
  simp only [lane_lt]
  exact (congrArg₂ (fun x y : EReal => x + y) (Finset.sum_eq_zero fun d _ => rfl) rfl).trans (zero_add _)

/-- A context score of the first head. -/
theorem ctx_lo (Q : Vec Ideal S1x256x128 .bf16) (kc : FVec Ideal S256x128 .bf16) (r : Fin 256) (n : Fin 256) :
    k0_pay54 kc (k0_pay51 k0_pay79 Q) (ix4 (0 : Fin 1) (0 : Fin 1) r n)
      = ∑ d : Fin 64, Q (ix3 (0 : Fin 1) r (lane 0 d)) * eighthK * kc (ix2 n (lane 0 d)) := by
  unfold k0_pay54 k0_pay51 k0_pay49 k0_pay79
  pointwise
  rw [sum_lanes]
  simp only [lane_lt]
  exact (congrArg₂ (fun x y : EReal => x + y) rfl (Finset.sum_eq_zero fun d _ => rfl)).trans (add_zero _)

/-- A context score of the second head. -/
theorem ctx_hi (Q : Vec Ideal S1x256x128 .bf16) (kc : FVec Ideal S256x128 .bf16) (r : Fin 256) (n : Fin 256) :
    k0_pay57 k0_pay79 kc (k0_pay49 Q) (ix4 (0 : Fin 1) (0 : Fin 1) r n)
      = ∑ d : Fin 64, Q (ix3 (0 : Fin 1) r (lane 1 d)) * eighthK * kc (ix2 n (lane 1 d)) := by
  unfold k0_pay57 k0_pay55 k0_pay49 k0_pay79
  pointwise
  rw [sum_lanes]
  simp only [lane_lt]
  exact (congrArg₂ (fun x y : EReal => x + y) (Finset.sum_eq_zero fun d _ => rfl) rfl).trans (zero_add _)

/-- A window score: the head's own features, an eighth of the query against the key, and the bias. -/
theorem winScore_at (I : Inp Ideal) (hI : Plain I) (j : Fin 16) (h : Fin 2) (r : Fin 256) (n : Fin 768) :
    winScore I j h (ix4 (0 : Fin 1) (0 : Fin 1) r n)
      = ∑ d : Fin 64, rows I.q j (ix3 (0 : Fin 1) r (lane h d)) * eighthK * keys I.k j (ix3 (0 : Fin 1) n (lane h d))
        + biasOf I.bias j h (ix5 (0 : Fin 1) (0 : Fin 1) (0 : Fin 1) r n) := by
  unfold winScore
  rw [hI.lo]
  fin_cases h
  · exact win_lo _ _ _ r n
  · exact win_hi _ _ _ r n

/-- A context score. -/
theorem ctxScore_at (I : Inp Ideal) (hI : Plain I) (j : Fin 16) (h : Fin 2) (r : Fin 256) (n : Fin 256) :
    ctxScore I j h (ix4 (0 : Fin 1) (0 : Fin 1) r n)
      = ∑ d : Fin 64, rows I.q j (ix3 (0 : Fin 1) r (lane h d)) * eighthK * I.kc (ix2 n (lane h d)) := by
  unfold ctxScore
  rw [hI.lo]
  fin_cases h
  · exact ctx_lo _ _ r n
  · exact ctx_hi _ _ r n

/-- The greatest score of a row. -/
def rowMax (A : Vec Ideal S1x1x256x768 .f32) (C : Vec Ideal S1x1x256x256 .f32) (r : Fin 256) : EReal :=
  max (Finset.univ.fold max (Ideal.ofBits .f32 0xFF800000#32) fun x : Fin 768 => A (ix4 (0 : Fin 1) (0 : Fin 1) r x))
    (Finset.univ.fold max (Ideal.ofBits .f32 0xFF800000#32) fun x : Fin 256 => C (ix4 (0 : Fin 1) (0 : Fin 1) r x))

/-- The greatest score of a row. -/
theorem max_entry (A : Vec Ideal S1x1x256x768 .f32) (C : Vec Ideal S1x1x256x256 .f32) (r : Fin 256) (z : Fin 1) :
    k0_pay45 A C (ix2 r z) = rowMax A C r := by
  unfold k0_pay45 k0_pay44 k0_pay43 rowMax
  pointwise

/-- The exponential of a window score. -/
theorem winExp_at (I : Inp Ideal) (j : Fin 16) (h : Fin 2) (r : Fin 256) (n : Fin 768) :
    winExp I j h (ix4 (0 : Fin 1) (0 : Fin 1) r n)
      = Ideal.exp (winScore I j h (ix4 (0 : Fin 1) (0 : Fin 1) r n) - rowMax (winScore I j h) (ctxScore I j h) r) := by
  unfold winExp
  generalize winScore I j h = A
  generalize ctxScore I j h = C
  unfold k0_pay46 k0_pay43
  pointwise
  simp only [max_entry]

/-- The exponential of a context score. -/
theorem ctxExp_at (I : Inp Ideal) (j : Fin 16) (h : Fin 2) (r : Fin 256) (n : Fin 256) :
    ctxExp I j h (ix4 (0 : Fin 1) (0 : Fin 1) r n)
      = Ideal.exp (ctxScore I j h (ix4 (0 : Fin 1) (0 : Fin 1) r n) - rowMax (winScore I j h) (ctxScore I j h) r) := by
  unfold ctxExp
  generalize winScore I j h = A
  generalize ctxScore I j h = C
  unfold k0_pay48 k0_pay47 k0_pay44
  pointwise
  simp only [max_entry]

/-- One output entry from the weights of its head: their mix of the values, over the sum of the weights. -/
theorem out_entry (vc : FVec Ideal S256x128 .bf16) (V : Vec Ideal S1x768x128 .bf16) (A A' : Vec Ideal S1x1x256x768 .bf16)
    (C C' : Vec Ideal S1x1x256x256 .bf16) (r : Fin 256) (h : Fin 2) (d : Fin 64) (o : EReal)
    (ho : o = k0_pay35 k0_pay79 vc (iota .tc S256x128 32 [1] iota_S256x128_d1_w32) (k0_pay32 V)
      (k0_pay33 vc (iota .tc S768x128 32 [1] iota_S768x128_d1_w32) (iota .tc S256x128 32 [1] iota_S256x128_d1_w32) V A C)
      (k0_pay34 (iota .tc S768x128 32 [1] iota_S768x128_d1_w32)) (Scalar.ofBits .bf16 0x3F80#16) A' C' (ix3 (0 : Fin 1) r (lane h d))) :
    o = (∑ x : Fin 768, (if h.val = 0 then A else A') (ix4 (0 : Fin 1) (0 : Fin 1) r x) * V (ix3 (0 : Fin 1) x (lane h d))
        + ∑ x : Fin 256, (if h.val = 0 then C else C') (ix4 (0 : Fin 1) (0 : Fin 1) r x) * vc (ix2 x (lane h d)))
      * Ideal.div 1 (∑ x : Fin 768, (if h.val = 0 then A else A') (ix4 (0 : Fin 1) (0 : Fin 1) r x)
        + ∑ x : Fin 256, (if h.val = 0 then C else C') (ix4 (0 : Fin 1) (0 : Fin 1) r x)) := by
  subst ho
  obtain ⟨l, hl⟩ : ∃ l, l = lane h d := ⟨_, rfl⟩
  have h1 : IntOp.cmpi .slt (BitVec.ofNat 32 l.val) 64#32 = if h.val = 0 then 1#1 else 0#1 := by rw [hl]; exact lane_lt h d
  have h2 : h.val = 0 → IntOp.cmpi .eq (BitVec.ofNat 32 l.val) 64#32 = 0#1 := by
    intro e; rw [hl, show h = 0 from Fin.ext e]; exact lane_64 d
  have h3 : ¬ h.val = 0 → IntOp.cmpi .eq (BitVec.ofNat 32 l.val) 0#32 = 0#1 := by
    intro e; rw [hl, show h = 1 from Fin.ext (by show h.val = 1; omega)]; exact lane_0 d
  rw [← hl]
  clear hl
  unfold k0_pay35 k0_pay34 k0_pay33 k0_pay32 k0_pay79
  pointwise
  by_cases hh : h.val = 0
  · simp only [h1, h2 hh, if_pos hh]; rfl
  · simp only [h1, h3 hh, if_neg hh]; rfl

/-- One result entry: the head's weighted values over the head's sum of weights. -/
theorem out_at (I : Inp Ideal) (hI : Plain I) (j : Fin 16) (r : Fin 256) (h : Fin 2) (d : Fin 64) :
    outOf I j (ix3 (0 : Fin 1) r (lane h d))
      = (∑ x : Fin 768, winExp I j h (ix4 (0 : Fin 1) (0 : Fin 1) r x) * keys I.v j (ix3 (0 : Fin 1) x (lane h d))
          + ∑ x : Fin 256, ctxExp I j h (ix4 (0 : Fin 1) (0 : Fin 1) r x) * I.vc (ix2 x (lane h d)))
        * Ideal.div 1 (∑ x : Fin 768, winExp I j h (ix4 (0 : Fin 1) (0 : Fin 1) r x) + ∑ x : Fin 256, ctxExp I j h (ix4 (0 : Fin 1) (0 : Fin 1) r x)) := by
  have e := out_entry I.vc (keys I.v j) (winExp I j 0) (winExp I j 1) (ctxExp I j 0) (ctxExp I j 1) r h d (outOf I j (ix3 (0 : Fin 1) r (lane h d)))
    (by unfold outOf; rw [hI.lo, hI.lanes, hI.lanes'])
  refine e.trans ?_
  fin_cases h <;> rfl

end Cert.Na

end
end
-- ==== Proof.NaReads.lean ====
/- What one block of the neighbourhood attention reads, entry by entry: its rows, its keys and values, and its bias. -/
module

public import proofs.«01_k».proof.Proof.NaTab
public import proofs.«01_k».proof.Proof.NaEntry

@[expose] public section

set_option maxRecDepth 16384
set_option maxHeartbeats 1000000

noncomputable section

namespace Cert.Na

open Idealize.ShloMosaic Idealize.ShloMosaic.TcCoe Idealize.ShloMosaic.Tactic
open Idealize.SL.Sem
open Cert.KernelIdeal Cert.KernelIdeal.Gen
open Cert.NaRef (colOk rowStart)
open VecWindow (window put)

variable (m : (ℓ : Loc nD τ sig) → Buf (Elt Ideal) ℓ) (c : Dev nD)

/-- The arguments. -/
abbrev Q : FVec Ideal S4x4096x512 .bf16 := m ((c.tc : Thread nD τ).loc main_arg0)
/-- The keys. -/
abbrev K : FVec Ideal S4x4096x512 .bf16 := m ((c.tc : Thread nD τ).loc main_arg1)
/-- The values. -/
abbrev W : FVec Ideal S4x4096x512 .bf16 := m ((c.tc : Thread nD τ).loc main_arg2)
/-- The context keys. -/
abbrev KC : FVec Ideal S4x256x512 .bf16 := m ((c.tc : Thread nD τ).loc main_arg3)
/-- The context values. -/
abbrev WC : FVec Ideal S4x256x512 .bf16 := m ((c.tc : Thread nD τ).loc main_arg4)
/-- The relative biases. -/
abbrev RPB : FVec Ideal S1x8x15x31 .f32 := m ((c.tc : Thread nD τ).loc main_arg5)

/-- There are four pairs of heads. -/
theorem pair_lt (t : Fin cfg0.N) : t.val / 4 < 4 := (idx t).2.2.2.2.2.2.2.2.1

/-- Feature `l` of point `t`'s pair of heads. -/
abbrev feat (t : Fin cfg0.N) (l : Fin 128) : Fin 512 := ⟨t.val / 4 * 128 + l.val, by have := pair_lt t; omega⟩

/-- Point `t`'s batch. -/
abbrev bat (t : Fin cfg0.N) : Fin 4 := ⟨t.val % 4, by omega⟩

/-- An entry of a point's query block. -/
theorem q_at (t : Fin cfg0.N) (z : Fin 1) (n : Fin 4096) (l : Fin 128) : iblk m c 0 t (ix3 z n l) = Q m c (ix3 (bat t) n (feat t l)) := by
  unfold iblk
  rw [View.read_apply]
  show V m c main_arg0 _ = _
  rw [V_main_arg0]
  blk_ext [idx t]
/-- An entry of a point's key block. -/
theorem k_at (t : Fin cfg0.N) (z : Fin 1) (n : Fin 4096) (l : Fin 128) : iblk m c 1 t (ix3 z n l) = K m c (ix3 (bat t) n (feat t l)) := by
  unfold iblk
  rw [View.read_apply]
  show V m c main_arg1 _ = _
  rw [V_main_arg1]
  blk_ext [idx t]
/-- An entry of a point's value block. -/
theorem v_at (t : Fin cfg0.N) (z : Fin 1) (n : Fin 4096) (l : Fin 128) : iblk m c 2 t (ix3 z n l) = W m c (ix3 (bat t) n (feat t l)) := by
  unfold iblk
  rw [View.read_apply]
  show V m c main_arg2 _ = _
  rw [V_main_arg2]
  blk_ext [idx t]
/-- An entry of a point's context keys. -/
theorem kc_at (t : Fin cfg0.N) (z : Fin 1) (n : Fin 256) (l : Fin 128) : iblk m c 3 t (ix3 z n l) = KC m c (ix3 (bat t) n (feat t l)) := by
  unfold iblk
  rw [View.read_apply]
  show V m c main_arg3 _ = _
  rw [V_main_arg3]
  blk_ext [idx t]
/-- An entry of a point's context values. -/
theorem vc_at (t : Fin cfg0.N) (z : Fin 1) (n : Fin 256) (l : Fin 128) : iblk m c 4 t (ix3 z n l) = WC m c (ix3 (bat t) n (feat t l)) := by
  unfold iblk
  rw [View.read_apply]
  show V m c main_arg4 _ = _
  rw [V_main_arg4]
  blk_ext [idx t]

/-- Block `j`'s token `r` is token `256·j + r`. -/
theorem rows_read (x : Vec Ideal S1x4096x128 .bf16) (j : Fin 16) (r : Fin 256) (l : Fin 128) :
    rows x j (ix3 (0 : Fin 1) r l) = x (ix3 (0 : Fin 1) (⟨256 * j.val + r.val, by omega⟩ : Fin 4096) l) := by
  refine congrArg x (funext fun a => Fin.ext ?_)
  fin_cases a
  · rfl
  · show 256 * j.val + 1 * r.val = 256 * j.val + r.val; omega
  · show 0 + 1 * l.val = l.val; omega

/-- Block `j`'s key `n` is token `keyStart j + n`. -/
theorem keys_read (x : Vec Ideal S1x4096x128 .bf16) (j : Fin 16) (n : Fin 768) (l : Fin 128) :
    keys x j (ix3 (0 : Fin 1) n l) = x (ix3 (0 : Fin 1) (⟨keyStart j + n.val, by unfold keyStart; omega⟩ : Fin 4096) l) := by
  refine congrArg x (funext fun a => Fin.ext ?_)
  fin_cases a
  · rfl
  · show keyStart j + 1 * n.val = keyStart j + n.val; omega
  · show 0 + 1 * l.val = l.val; omega

/-- There are three mask patterns. -/
theorem pat_lt (j : Fin 16) : pat j < 3 := by unfold pat; split_ifs <;> omega

/-- The bias a block reads, at its pattern. -/
theorem biasOf_at (x : Vec Ideal S1x3x2x256x768 .f32) (j : Fin 16) (h : Fin 2) (r : Fin 256) (n : Fin 768) :
    biasOf x j h (ix5 (0 : Fin 1) (0 : Fin 1) (0 : Fin 1) r n) = x (ix5 (0 : Fin 1) (⟨pat j, pat_lt j⟩ : Fin 3) h r n) := by
  refine congrArg x (funext fun a => Fin.ext ?_)
  fin_cases a
  · rfl
  · show pat j + 1 * 0 = pat j; omega
  · show h.val + 1 * 0 = h.val; omega
  · show 0 + 1 * r.val = r.val; omega
  · show 0 + 1 * n.val = n.val; omega

/-- The mask value is minus infinity. -/
theorem negInf_eq : negInf = (⊥ : EReal) := by simp [negInf, Ideal.ofBits, Ideal.ieee]

/-- The image row of block `j`'s token `r`. -/
abbrev imgRow (j : Fin 16) (r : Fin 256) : ℕ := 4 * j.val + r.val / 64

/-- The three kinds of block: the first, the last, any other. -/
theorem kinds (j : Fin 16) : (j.val = 0 ∧ pat j = 0 ∧ ∀ a, off (pat j) a = 0) ∨ (j.val = 15 ∧ pat j = 2 ∧ ∀ a, off (pat j) a = 4)
    ∨ (1 ≤ j.val ∧ j.val ≤ 14 ∧ pat j = 1 ∧ ∀ a, off (pat j) a = a) := by
  by_cases h0 : j.val = 0
  · have hp : pat j = 0 := if_pos h0
    exact .inl ⟨h0, hp, fun a => by rw [hp]; rfl⟩
  · by_cases h1 : j.val = 15
    · have hp : pat j = 2 := (if_neg h0).trans (if_pos h1)
      exact .inr (.inl ⟨h1, hp, fun a => by rw [hp]; rfl⟩)
    · have hp : pat j = 1 := (if_neg h0).trans (if_neg h1)
      exact .inr (.inr ⟨by omega, by have := j.isLt; omega, hp, fun a => by rw [hp]; rfl⟩)

/-- The first of the eight rows inside the twelve staged ones is the first row the query looks at. -/
theorem off_row (j : Fin 16) (r : Fin 256) : min 52 (4 * j.val - 4) + off (pat j) (r.val / 64) = rowStart (imgRow j r) := by
  have hr := r.isLt
  have e : rowStart (imgRow j r) = min 56 (4 * j.val + r.val / 64 - 4) := rfl
  rw [e]
  rcases kinds j with ⟨h, _, ho⟩ | ⟨h, _, ho⟩ | ⟨h, h', _, ho⟩ <;> rw [ho] <;> omega

/-- The first of the eight rows is one of the first five of the twelve. -/
theorem off_le (j : Fin 16) (r : Fin 256) : off (pat j) (r.val / 64) ≤ 4 := by
  have hr := r.isLt
  rcases kinds j with ⟨_, _, ho⟩ | ⟨_, _, ho⟩ | ⟨_, _, _, ho⟩ <;> rw [ho] <;> omega

/-- The row of the column table that staged row `b` stands for, and its relative row. -/
theorem rel_row (j : Fin 16) (r : Fin 256) (b : ℕ) (hb : off (pat j) (r.val / 64) ≤ b ∧ b < off (pat j) (r.val / 64) + 8) :
    rowStart (imgRow j r) + (b - off (pat j) (r.val / 64)) + 7 - imgRow j r + 4 = 11 - 4 * pat j - r.val / 64 + b := by
  have hr := r.isLt
  have e : rowStart (imgRow j r) = min 56 (4 * j.val + r.val / 64 - 4) := rfl
  have e' : imgRow j r = 4 * j.val + r.val / 64 := rfl
  rw [e, e']
  revert hb
  rcases kinds j with ⟨h, hp, ho⟩ | ⟨h, hp, ho⟩ | ⟨h, h', hp, ho⟩ <;> rw [ho, hp] <;> omega

/-- Head `h` of point `t`'s pair. -/
abbrev headOf (t : Fin cfg0.N) (h : Fin 2) : Fin 8 := ⟨t.val / 4 * 2 + h.val, by have := pair_lt t; omega⟩

/-- Outside the eight rows the bias is minus infinity, -/
theorem bias_out (t : Fin cfg0.N) (j : Fin 16) (h : Fin 2) (r : Fin 256) (b : Fin 12) (x : Fin 64)
    (hb : ¬ (off (pat j) (r.val / 64) ≤ b.val ∧ b.val < off (pat j) (r.val / 64) + 8)) :
    biasOf (tables m c t) j h (ix5 (0 : Fin 1) (0 : Fin 1) (0 : Fin 1) r (⟨b.val * 64 + x.val, by omega⟩ : Fin 768)) = (⊥ : EReal) := by
  rw [biasOf_at]
  have hmask : iblk m c 6 t (ix4 (⟨pat j, pat_lt j⟩ : Fin 3) (⟨r.val / 64, by omega⟩ : Fin 4) (0 : Fin 1) (⟨b.val * 64 + x.val, by omega⟩ : Fin 768)) = (⊥ : EReal) :=
    (mask_at m c t _ _ _ _).trans ((maskEntry m c _ _ b x).trans ((if_neg hb).trans negInf_eq))
  exact (congrArg₂ (fun x y : EReal => x + y) rfl hmask).trans (EReal.add_bot _)

/-- inside them it is the relative bias in the window of columns and minus infinity out of it. -/
theorem bias_in (t : Fin cfg0.N) (j : Fin 16) (h : Fin 2) (r : Fin 256) (b : Fin 12) (x : Fin 64)
    (hb : off (pat j) (r.val / 64) ≤ b.val ∧ b.val < off (pat j) (r.val / 64) + 8) (i : Fin 15)
    (hi : i.val = rowStart (imgRow j r) + (b.val - off (pat j) (r.val / 64)) + 7 - imgRow j r) :
    biasOf (tables m c t) j h (ix5 (0 : Fin 1) (0 : Fin 1) (0 : Fin 1) r (⟨b.val * 64 + x.val, by omega⟩ : Fin 768))
      = if colOk (r.val % 64) x.val then RPB m c (ix4 (0 : Fin 1) (headOf t h) i (⟨min 30 (x.val + 15 - r.val % 64), by omega⟩ : Fin 31)) else (⊥ : EReal) := by
  rw [biasOf_at]
  have hs : tabStart ⟨pat j, pat_lt j⟩ r = 11 - 4 * pat j - r.val / 64 := rfl
  have hrow : i.val + 4 = 11 - 4 * pat j - r.val / 64 + b.val := by
    rw [hi]
    exact rel_row j r b.val hb
  have hmask : iblk m c 6 t (ix4 (⟨pat j, pat_lt j⟩ : Fin 3) (⟨r.val / 64, by omega⟩ : Fin 4) (0 : Fin 1) (⟨b.val * 64 + x.val, by omega⟩ : Fin 768)) = (0 : EReal) :=
    (mask_at m c t _ _ _ _).trans ((maskEntry m c _ _ b x).trans (if_pos hb))
  have hb24 : tabStart ⟨pat j, pat_lt j⟩ r - tabStart ⟨pat j, pat_lt j⟩ r % 2 + b.val < 24 := by have := i.isLt; omega
  have htab := (cols_at m c t h (⟨tabStart ⟨pat j, pat_lt j⟩ r % 2, by omega⟩ : Fin 2) (⟨r.val % 64, by omega⟩ : Fin 64)
      (⟨(tabStart ⟨pat j, pat_lt j⟩ r - tabStart ⟨pat j, pat_lt j⟩ r % 2 + b.val) * 64 + x.val, by omega⟩ : Fin 1536)).trans
    (tabEntry m c (headOf t h) _ _ ⟨tabStart ⟨pat j, pat_lt j⟩ r - tabStart ⟨pat j, pat_lt j⟩ r % 2 + b.val, hb24⟩ x
      (by show 4 ≤ tabStart ⟨pat j, pat_lt j⟩ r - tabStart ⟨pat j, pat_lt j⟩ r % 2 + b.val + tabStart ⟨pat j, pat_lt j⟩ r % 2; omega)
      (by show tabStart ⟨pat j, pat_lt j⟩ r - tabStart ⟨pat j, pat_lt j⟩ r % 2 + b.val + tabStart ⟨pat j, pat_lt j⟩ r % 2 < 19; have := i.isLt; omega))
  rw [negInf_eq] at htab
  refine (congrArg₂ (fun x y : EReal => x + y) (Eq.trans ?_ (htab.trans ?_)) hmask).trans (add_zero _)
  · refine congrArg (iblk m c 5 t) (congrArg (fun n : Fin 1536 => ix4 h (⟨tabStart ⟨pat j, pat_lt j⟩ r % 2, by omega⟩ : Fin 2) (⟨r.val % 64, by omega⟩ : Fin 64) n) (Fin.ext ?_))
    show 64 * (tabStart ⟨pat j, pat_lt j⟩ r - tabStart ⟨pat j, pat_lt j⟩ r % 2) + (b.val * 64 + x.val)
      = (tabStart ⟨pat j, pat_lt j⟩ r - tabStart ⟨pat j, pat_lt j⟩ r % 2 + b.val) * 64 + x.val
    omega
  · refine congrArg (fun y => if colOk (r.val % 64) x.val then RPB m c (ix4 (0 : Fin 1) (headOf t h) y _) else (⊥ : EReal)) (Fin.ext ?_)
    show tabStart ⟨pat j, pat_lt j⟩ r - tabStart ⟨pat j, pat_lt j⟩ r % 2 + b.val + tabStart ⟨pat j, pat_lt j⟩ r % 2 - 4 = i.val
    omega

end Cert.Na

end
end
-- ==== Proof.NaMath.lean ====
/- The softmax row of the neighbourhood attention over the extended reals: a row over twelve image rows of keys, all but
   eight of them masked by minus infinity, divided once at the end, against a row over those eight image rows alone, each
   weight divided first. No program is mentioned here. -/
module

public import Idealize.ShloMosaic.Lib.Pointwise
public import Idealize.ShloMosaic.Lib.IdealHost

@[expose] public section

set_option maxRecDepth 16384

noncomputable section

namespace Cert.Na

open Idealize.ShloMosaic

/-- The sum over twelve image rows of which only eight count is the sum over the eight. -/
theorem sum_rows (off : ℕ) (hoff : off ≤ 4) (g : Fin 768 → EReal) (r : Fin 8 → Fin 64 → EReal)
    (h : ∀ (c : Fin 12) (x : Fin 64), g ⟨c.val * 64 + x.val, by omega⟩
      = if h : off ≤ c.val ∧ c.val < off + 8 then r ⟨c.val - off, by omega⟩ x else 0) :
    ∑ n, g n = ∑ κ, ∑ x, r κ x := by
  rw [Fin.sum_univ_tiles 12 64 rfl g]
  have e : ∀ c : Fin 12, ∑ x : Fin 64, g ⟨c.val * 64 + x.val, by omega⟩
      = if h : off ≤ c.val ∧ c.val < off + 8 then ∑ x, r ⟨c.val - off, by omega⟩ x else 0 := by
    intro c
    by_cases hc : off ≤ c.val ∧ c.val < off + 8
    · rw [dif_pos hc]; exact Finset.sum_congr rfl fun x _ => by rw [h, dif_pos hc]
    · rw [dif_neg hc]; exact Finset.sum_eq_zero fun x _ => by rw [h, dif_neg hc]
  refine (Finset.sum_congr rfl fun c _ => e c).trans ?_
  generalize hR : (fun κ : Fin 8 => ∑ x, r κ x) = R
  have hR' : ∀ κ, ∑ x, r κ x = R κ := fun κ => congrFun hR κ
  simp only [hR']
  interval_cases off <;> simp [Fin.sum_univ_succ] <;> rfl

/-- A row of 768 in its first 512, by image row and column, and its last 256. -/
theorem sum_split (g : Fin 768 → EReal) :
    ∑ n, g n = (∑ κ : Fin 8, ∑ x : Fin 64, g ⟨κ.val * 64 + x.val, by omega⟩) + ∑ n : Fin 256, g ⟨512 + n.val, by omega⟩ := by
  rw [show (∑ n, g n) = (∑ i : Fin 512, g ⟨i.val, by omega⟩) + ∑ n : Fin 256, g ⟨512 + n.val, by omega⟩ from
    Fin.sum_univ_add (a := 512) (b := 256) g]
  rw [Fin.sum_univ_tiles 8 64 rfl (fun i : Fin 512 => g ⟨i.val, by omega⟩)]

/-- A factor that is not negative and not infinite goes through a sum. -/
theorem sum_mul_const {ι : Type} (s : Finset ι) (f : ι → EReal) (c : EReal) (h0 : 0 ≤ c) (hT : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 hT, ih]

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest score of the masked row is that of the plain row. -/
theorem max_rows (off : ℕ) (hoff : off ≤ 4) (f A : Fin 768 → EReal) (C : Fin 256 → EReal)
    (hA : ∀ (c : Fin 12) (x : Fin 64), A ⟨c.val * 64 + x.val, by omega⟩
      = if h : off ≤ c.val ∧ c.val < off + 8 then f ⟨(c.val - off) * 64 + x.val, by omega⟩ else ⊥)
    (hC : ∀ n, C n = f ⟨512 + n.val, by omega⟩) :
    max (Finset.univ.fold max ⊥ A) (Finset.univ.fold max ⊥ C) = max ⊥ (Finset.univ.fold max ⊥ f) := by
  have hle : ∀ n, f n ≤ Finset.univ.fold max ⊥ f := fun n => (Finset.le_fold_max _).2 (Or.inr ⟨n, Finset.mem_univ _, le_rfl⟩)
  have hleA : ∀ n, A n ≤ Finset.univ.fold max ⊥ A := fun n => (Finset.le_fold_max _).2 (Or.inr ⟨n, Finset.mem_univ _, le_rfl⟩)
  have hleC : ∀ n, C n ≤ Finset.univ.fold max ⊥ C := fun n => (Finset.le_fold_max _).2 (Or.inr ⟨n, Finset.mem_univ _, le_rfl⟩)
  rw [max_eq_right (bot_le : ⊥ ≤ Finset.univ.fold max ⊥ f)]
  refine le_antisymm (max_le ((Finset.fold_max_le _).2 ⟨bot_le, fun n _ => ?_⟩) ((Finset.fold_max_le _).2 ⟨bot_le, fun n _ => ?_⟩))
    ((Finset.fold_max_le _).2 ⟨bot_le, fun n _ => ?_⟩)
  · have e := hA ⟨n.val / 64, by omega⟩ ⟨n.val % 64, by omega⟩
    have hn : (⟨n.val / 64 * 64 + n.val % 64, by omega⟩ : Fin 768) = n := Fin.ext (by show n.val / 64 * 64 + n.val % 64 = n.val; omega)
    rw [show A n = _ from (congrArg A hn).symm.trans e]
    split
    · exact hle _
    · exact bot_le
  · rw [hC]; exact hle _
  · by_cases h5 : n.val < 512
    · refine le_max_of_le_left (le_trans (le_of_eq ?_) (hleA ⟨(n.val / 64 + off) * 64 + n.val % 64, by omega⟩))
      have e := hA ⟨n.val / 64 + off, by omega⟩ ⟨n.val % 64, by omega⟩
      rw [dif_pos (show off ≤ n.val / 64 + off ∧ n.val / 64 + off < off + 8 by omega)] at e
      refine Eq.trans (congrArg f (Fin.ext ?_)) e.symm
      show n.val = (n.val / 64 + off - off) * 64 + n.val % 64
      omega
    · refine le_max_of_le_right (le_trans (le_of_eq ?_) (hleC ⟨n.val - 512, by omega⟩))
      rw [hC]
      exact congrArg f (Fin.ext (by show n.val = 512 + (n.val - 512); omega))

/-- The masked row of the kernel, divided once at the end, is the plain row whose weights are divided one by one. -/
theorem row_eq (off : ℕ) (hoff : off ≤ 4) (f A V : Fin 768 → EReal) (C vc : Fin 256 → EReal) (vr : Fin 8 → Fin 64 → EReal)
    (hA : ∀ (c : Fin 12) (x : Fin 64), A ⟨c.val * 64 + x.val, by omega⟩
      = if h : off ≤ c.val ∧ c.val < off + 8 then f ⟨(c.val - off) * 64 + x.val, by omega⟩ else ⊥)
    (hC : ∀ n, C n = f ⟨512 + n.val, by omega⟩)
    (hV : ∀ (c : Fin 12) (x : Fin 64) (h : off ≤ c.val ∧ c.val < off + 8), V ⟨c.val * 64 + x.val, by omega⟩ = vr ⟨c.val - off, by omega⟩ x)
    (hreal : ∃ y : ℝ, C 0 = (y : EReal)) (hfin : ∀ n, f n ≠ ⊤) :
    (∑ n, Ideal.exp (A n - max (Finset.univ.fold max ⊥ A) (Finset.univ.fold max ⊥ C)) * V n
        + ∑ n, Ideal.exp (C n - max (Finset.univ.fold max ⊥ A) (Finset.univ.fold max ⊥ C)) * vc n)
      * Ideal.div 1 (∑ n, Ideal.exp (A n - max (Finset.univ.fold max ⊥ A) (Finset.univ.fold max ⊥ C))
        + ∑ n, Ideal.exp (C n - max (Finset.univ.fold max ⊥ A) (Finset.univ.fold max ⊥ C)))
    = (∑ κ : Fin 8, ∑ x : Fin 64, Ideal.div (Ideal.exp (f ⟨κ.val * 64 + x.val, by omega⟩ - max ⊥ (Finset.univ.fold max ⊥ f)))
          (∑ n, Ideal.exp (f n - max ⊥ (Finset.univ.fold max ⊥ f))) * vr κ x)
      + ∑ n : Fin 256, Ideal.div (Ideal.exp (f ⟨512 + n.val, by omega⟩ - max ⊥ (Finset.univ.fold max ⊥ f)))
          (∑ n, Ideal.exp (f n - max ⊥ (Finset.univ.fold max ⊥ f))) * vc n := by
  rw [max_rows off hoff f A C hA hC]
  obtain ⟨y, hy⟩ := hreal
  have hM : ∃ μ : ℝ, max ⊥ (Finset.univ.fold max ⊥ f) = (μ : EReal) := by
    rw [max_eq_right (bot_le : ⊥ ≤ Finset.univ.fold max ⊥ f)]
    have h1 : Finset.univ.fold max ⊥ f ≠ ⊤ := by
      refine ne_of_lt ((Finset.fold_max_lt _).2 ⟨bot_lt_top, fun n _ => lt_top_iff_ne_top.2 (hfin n)⟩)
    have h2 : Finset.univ.fold max ⊥ f ≠ ⊥ := by
      refine ne_of_gt (lt_of_lt_of_le (EReal.bot_lt_coe y) ?_)
      rw [← hy, hC]
      exact (Finset.le_fold_max _).2 (Or.inr ⟨_, Finset.mem_univ _, le_rfl⟩)
    exact ⟨_, (EReal.coe_toReal h1 h2).symm⟩
  obtain ⟨μ, hμ⟩ := hM
  rw [hμ]
  have hbot : Ideal.exp (⊥ - (μ : EReal)) = 0 := by
    rw [sub_eq_add_neg, EReal.bot_add]; rfl
  have hexp : ∀ n, ∃ ε : ℝ, 0 ≤ ε ∧ Ideal.exp (f n - (μ : EReal)) = (ε : EReal) := by
    intro n
    have := hfin n
    generalize f n = z at this ⊢
    induction z with
    | bot => exact ⟨0, le_rfl, by rw [hbot]; rfl⟩
    | coe r => exact ⟨Real.exp (r - μ), (Real.exp_pos _).le, by rw [← EReal.coe_sub]; rfl⟩
    | top => exact absurd rfl this
  choose ε hε0 hε using hexp
  have hpos : 0 < ∑ n, ε n := by
    refine Finset.sum_pos' (fun n _ => hε0 n) ⟨⟨512, by omega⟩, Finset.mem_univ _, ?_⟩
    have e : ((ε ⟨512, by omega⟩ : ℝ) : EReal) = ((Real.exp (y - μ) : ℝ) : EReal) := by
      rw [← hε, show f ⟨512, by omega⟩ = (y : EReal) from (hC 0).symm.trans hy, ← EReal.coe_sub]; rfl
    rw [EReal.coe_eq_coe_iff.1 e]
    exact Real.exp_pos _
  have hsum : (∑ n, Ideal.exp (f n - (μ : EReal))) = ((∑ n, ε n : ℝ) : EReal) := by
    rw [coe_sum]; exact Finset.sum_congr rfl fun n _ => hε n
  have hL : (∑ n, Ideal.exp (A n - (μ : EReal))) + ∑ n, Ideal.exp (C n - (μ : EReal)) = ∑ n, Ideal.exp (f n - (μ : EReal)) := by
    rw [sum_split (fun n => Ideal.exp (f n - (μ : EReal)))]
    refine congrArg₂ (· + ·) (sum_rows off hoff _ _ fun c x => ?_) (Finset.sum_congr rfl fun n _ => by rw [hC])
    rw [hA]
    split
    · rfl
    · exact hbot
  have hO : (∑ n, Ideal.exp (A n - (μ : EReal)) * V n) = ∑ κ : Fin 8, ∑ x : Fin 64, Ideal.exp (f ⟨κ.val * 64 + x.val, by omega⟩ - (μ : EReal)) * vr κ x := by
    refine sum_rows off hoff _ (fun κ x => Ideal.exp (f ⟨κ.val * 64 + x.val, by omega⟩ - (μ : EReal)) * vr κ x) fun c x => ?_
    rw [hA]
    by_cases hc : off ≤ c.val ∧ c.val < off + 8
    · rw [dif_pos hc, dif_pos hc, hV c x hc]
    · rw [dif_neg hc, dif_neg hc, hbot, zero_mul]
  rw [hL, hO, hsum]
  have hne : (∑ n, ε n) ≠ 0 := hpos.ne'
  simp only [Ideal.div_coe hne, one_mul]
  have hc0 : (0 : EReal) ≤ ((1 / ∑ n, ε n : ℝ) : EReal) := EReal.coe_nonneg.2 (one_div_nonneg.2 hpos.le)
  have hcT : ((1 / ∑ n, ε n : ℝ) : EReal) ≠ ⊤ := EReal.coe_ne_top _
  rw [EReal.right_distrib_of_nonneg_of_ne_top hc0 hcT, sum_mul_const _ _ _ hc0 hcT, sum_mul_const _ _ _ hc0 hcT]
  refine congrArg₂ (· + ·) (Finset.sum_congr rfl fun κ _ => ?_) (Finset.sum_congr rfl fun n _ => ?_)
  · rw [sum_mul_const _ _ _ hc0 hcT]
    exact Finset.sum_congr rfl fun x _ => mul_right_comm _ _ _
  · rw [hC]
    exact mul_right_comm _ _ _

end Cert.Na

end
-- ==== Proof.NaValue.lean ====
/- The neighbourhood attention's result: every entry of what the kernel leaves is the reference's entry, when the queries, the
   keys, the context keys and the relative biases are finite. -/
module

public import proofs.«01_k».proof.Proof.NaReads
public import proofs.«01_k».proof.Proof.NaMath

@[expose] public section

set_option maxRecDepth 16384
set_option maxHeartbeats 1000000

noncomputable section

namespace Cert.Na

open Idealize.ShloMosaic Idealize.ShloMosaic.TcCoe Idealize.ShloMosaic.Tactic
open Idealize.SL.Sem
open Cert.KernelIdeal Cert.KernelIdeal.Gen
open Cert.NaRef (colOk rowStart heads ctxHeads win ctx scores eighth whole)
open VecWindow (window put)

/-- The word of minus infinity. -/
theorem negInf_word : Ideal.ofBits .f32 0xFF800000#32 = (⊥ : EReal) := negInf_eq

/-- The reference's scale is an eighth. -/
theorem eighth_eq : eighth = ((1 / 8 : ℝ) : EReal) := by simp [eighth, Ideal.ofBits, Ideal.ieee, -EReal.coe_mul]; norm_num
/-- The kernel's scale is an eighth. -/
theorem eighthK_eq : eighthK = ((1 / 8 : ℝ) : EReal) := by simp [eighthK, Ideal.ofBits, Ideal.ieee, -EReal.coe_mul]; norm_num

/-- Scaling the query scales the product. -/
theorem scaled (a b : Fin 64 → EReal) : ∑ d, a d * eighthK * b d = (∑ d, a d * b d) * eighth := by
  rw [eighth_eq, eighthK_eq, sum_mul_const _ _ _ (by exact_mod_cast (by norm_num : (0 : ℝ) ≤ 1 / 8)) (EReal.coe_ne_top _)]
  exact Finset.sum_congr rfl fun d _ => mul_right_comm _ _ _

/-- A product of real vectors, scaled, is real. -/
theorem real_dot (a b : Fin 64 → EReal) (ha : ∀ d, ∃ y : ℝ, a d = (y : EReal)) (hb : ∀ d, ∃ y : ℝ, b d = (y : EReal)) :
    ∃ y : ℝ, (∑ d, a d * b d) * eighth = (y : EReal) := by
  choose a' ha using ha
  choose b' hb using hb
  refine ⟨(∑ d, a' d * b' d) * (1 / 8), ?_⟩
  rw [eighth_eq, EReal.coe_mul, coe_sum]
  refine congrArg (fun y : EReal => y * _) (Finset.sum_congr rfl fun d _ => ?_)
  rw [ha, hb, EReal.coe_mul]

section reference

variable (q k v : FVec Ideal S4x4096x512 .bf16) (kc vc : FVec Ideal S4x256x512 .bf16) (rpb : FVec Ideal S1x8x15x31 .f32)

/-- The reference's scores of one query: eight image rows of 64, then the 256 context tokens. -/
def score (b : Fin 4) (h : Fin 8) (r w : Fin 64) (n : Fin 768) : EReal :=
  scores (win (heads q) (heads k) rpb) (ctx (heads q) (ctxHeads kc)) (ix5 b h r w n)

/-- The joined score of a window key, from the arrays. -/
theorem score_win (b : Fin 4) (h : Fin 8) (r w : Fin 64) (κ : Fin 8) (x : Fin 64) :
    score q k kc rpb b h r w ⟨κ.val * 64 + x.val, by omega⟩ = if colOk w.val x.val then
      (∑ d : Fin 64, q (ix3 b (⟨r.val * 64 + w.val, by omega⟩ : Fin 4096) (⟨h.val * 64 + d.val, by omega⟩ : Fin 512))
          * k (ix3 b (⟨(rowStart r.val + κ.val) * 64 + x.val, by unfold rowStart; omega⟩ : Fin 4096) (⟨h.val * 64 + d.val, by omega⟩ : Fin 512))) * eighth
        + rpb (ix4 (0 : Fin 1) h (⟨rowStart r.val + κ.val + 7 - r.val, by unfold rowStart; omega⟩ : Fin 15) (⟨min 30 (x.val + 15 - w.val), by omega⟩ : Fin 31))
      else ⊥ := by
  unfold score
  rw [Cert.NaRef.scores_win, Cert.NaRef.win_at, negInf_word]
  simp only [Cert.NaRef.heads_at]

/-- The joined score of a context key, from the arrays. -/
theorem score_ctx (b : Fin 4) (h : Fin 8) (r w : Fin 64) (n : Fin 256) :
    score q k kc rpb b h r w ⟨512 + n.val, by omega⟩ =
      (∑ d : Fin 64, q (ix3 b (⟨r.val * 64 + w.val, by omega⟩ : Fin 4096) (⟨h.val * 64 + d.val, by omega⟩ : Fin 512))
          * kc (ix3 b n (⟨h.val * 64 + d.val, by omega⟩ : Fin 512))) * eighth := by
  unfold score
  rw [Cert.NaRef.scores_ctx, Cert.NaRef.ctx_at]
  simp only [Cert.NaRef.heads_at, Cert.NaRef.ctxHeads_at]

/-- One entry of the reference's result: each weight divided, then the values summed. -/
theorem whole_at (b : Fin 4) (h : Fin 8) (r w d : Fin 64) :
    whole q k v kc vc rpb (ix3 b (⟨r.val * 64 + w.val, by omega⟩ : Fin 4096) (⟨h.val * 64 + d.val, by omega⟩ : Fin 512))
      = (∑ κ : Fin 8, ∑ x : Fin 64, Ideal.div (Ideal.exp (score q k kc rpb b h r w ⟨κ.val * 64 + x.val, by omega⟩ - max ⊥ (Finset.univ.fold max ⊥ (score q k kc rpb b h r w))))
            (∑ n, Ideal.exp (score q k kc rpb b h r w n - max ⊥ (Finset.univ.fold max ⊥ (score q k kc rpb b h r w))))
          * v (ix3 b (⟨(rowStart r.val + κ.val) * 64 + x.val, by unfold rowStart; omega⟩ : Fin 4096) (⟨h.val * 64 + d.val, by omega⟩ : Fin 512)))
        + ∑ n : Fin 256, Ideal.div (Ideal.exp (score q k kc rpb b h r w ⟨512 + n.val, by omega⟩ - max ⊥ (Finset.univ.fold max ⊥ (score q k kc rpb b h r w))))
            (∑ n, Ideal.exp (score q k kc rpb b h r w n - max ⊥ (Finset.univ.fold max ⊥ (score q k kc rpb b h r w))))
          * vc (ix3 b n (⟨h.val * 64 + d.val, by omega⟩ : Fin 512)) := by
  unfold whole
  rw [Cert.NaRef.merge_at, Cert.NaRef.mix_at]
  simp only [Cert.NaRef.soft_at, Cert.NaRef.exps_at, Cert.NaRef.greatest_at, Cert.NaRef.heads_at, Cert.NaRef.ctxHeads_at, negInf_word]
  rfl

/-- No score of a finite query is plus infinity, -/
theorem score_fin (hq : ∀ i, ∃ y : ℝ, q i = (y : EReal)) (hk : ∀ i, ∃ y : ℝ, k i = (y : EReal)) (hkc : ∀ i, ∃ y : ℝ, kc i = (y : EReal))
    (hr : ∀ i, ∃ y : ℝ, rpb i = (y : EReal)) (b : Fin 4) (h : Fin 8) (r w : Fin 64) (n : Fin 768) : score q k kc rpb b h r w n ≠ ⊤ := by
  by_cases hn : n.val < 512
  · have e : n = ⟨(⟨n.val / 64, by omega⟩ : Fin 8).val * 64 + (⟨n.val % 64, by omega⟩ : Fin 64).val, by show n.val / 64 * 64 + n.val % 64 < 768; omega⟩ :=
      Fin.ext (by show n.val = n.val / 64 * 64 + n.val % 64; omega)
    rw [e, score_win]
    split_ifs
    · obtain ⟨y, hy⟩ := real_dot (fun d => q (ix3 b (⟨r.val * 64 + w.val, by omega⟩ : Fin 4096) (⟨h.val * 64 + d.val, by omega⟩ : Fin 512)))
        (fun d => k (ix3 b (⟨(rowStart r.val + n.val / 64) * 64 + n.val % 64, by unfold rowStart; omega⟩ : Fin 4096) (⟨h.val * 64 + d.val, by omega⟩ : Fin 512)))
        (fun d => hq _) (fun d => hk _)
      obtain ⟨z, hz⟩ := hr (ix4 (0 : Fin 1) h (⟨rowStart r.val + n.val / 64 + 7 - r.val, by unfold rowStart; omega⟩ : Fin 15) (⟨min 30 (n.val % 64 + 15 - w.val), by omega⟩ : Fin 31))
      refine ne_of_eq_of_ne ((congrArg₂ (fun x y : EReal => x + y) hy hz).trans (EReal.coe_add y z).symm) (EReal.coe_ne_top _)
    · exact bot_ne_top
  · have e : n = ⟨512 + (⟨n.val - 512, by omega⟩ : Fin 256).val, by show 512 + (n.val - 512) < 768; omega⟩ :=
      Fin.ext (by show n.val = 512 + (n.val - 512); omega)
    rw [e, score_ctx]
    obtain ⟨y, hy⟩ := real_dot (fun d => q (ix3 b (⟨r.val * 64 + w.val, by omega⟩ : Fin 4096) (⟨h.val * 64 + d.val, by omega⟩ : Fin 512)))
        (fun d => kc (ix3 b (⟨n.val - 512, by omega⟩ : Fin 256) (⟨h.val * 64 + d.val, by omega⟩ : Fin 512)))
        (fun d => hq _) (fun d => hkc _)
    exact ne_of_eq_of_ne hy (EReal.coe_ne_top _)

end reference

variable (m : (ℓ : Loc nD τ sig) → Buf (Elt Ideal) ℓ) (c : Dev nD)

/-- A point's lane tables are the plain ones. -/
theorem plain (t : Fin cfg0.N) : Plain (inp m c t) := ⟨rfl, rfl, rfl⟩

/-- The image row and the column of block `j`'s token `r`. -/
abbrev rowF (j : Fin 16) (r : Fin 256) : Fin 64 := ⟨imgRow j r, by unfold imgRow; omega⟩
/-- The column of a block's token. -/
abbrev colF (r : Fin 256) : Fin 64 := ⟨r.val % 64, by omega⟩

/-- The query rows, the keys and values of the eight rows, and the context, in the reference's coordinates. -/
theorem q_read (t : Fin cfg0.N) (j : Fin 16) (r : Fin 256) (h : Fin 2) (d : Fin 64) :
    rows (inp m c t).q j (ix3 (0 : Fin 1) r (lane h d))
      = Q m c (ix3 (bat t) (⟨(rowF j r).val * 64 + (colF r).val, by omega⟩ : Fin 4096) (⟨(headOf t h).val * 64 + d.val, by omega⟩ : Fin 512)) := by
  refine (rows_read _ j r _).trans ((q_at m c t _ _ _).trans ?_)
  refine congrArg₂ (fun a b => Q m c (ix3 (bat t) a b)) (Fin.ext ?_) (Fin.ext ?_)
  · show 256 * j.val + r.val = (4 * j.val + r.val / 64) * 64 + r.val % 64; omega
  · show t.val / 4 * 128 + (h.val * 64 + d.val) = (t.val / 4 * 2 + h.val) * 64 + d.val; omega

/-- A key of the twelve rows that is not masked, as a key of the eight. -/
theorem row_lt (j : Fin 16) (r : Fin 256) (b : Fin 12) (x : Fin 64)
    (hb : off (pat j) (r.val / 64) ≤ b.val ∧ b.val < off (pat j) (r.val / 64) + 8) :
    keyStart j + (b.val * 64 + x.val) = (rowStart (rowF j r).val + (b.val - off (pat j) (r.val / 64))) * 64 + x.val := by
  have e := off_row j r
  show 64 * min 52 (4 * j.val - 4) + (b.val * 64 + x.val) = (rowStart (imgRow j r) + (b.val - off (pat j) (r.val / 64))) * 64 + x.val
  rw [← e]
  omega

/-- A key of the eight rows, in the reference's coordinates. -/
theorem k_read (t : Fin cfg0.N) (j : Fin 16) (r : Fin 256) (h : Fin 2) (d : Fin 64) (b : Fin 12) (x : Fin 64)
    (hb : off (pat j) (r.val / 64) ≤ b.val ∧ b.val < off (pat j) (r.val / 64) + 8) :
    keys (inp m c t).k j (ix3 (0 : Fin 1) (⟨b.val * 64 + x.val, by omega⟩ : Fin 768) (lane h d))
      = K m c (ix3 (bat t) (⟨(rowStart (rowF j r).val + (⟨b.val - off (pat j) (r.val / 64), by omega⟩ : Fin 8).val) * 64 + x.val, by unfold rowStart; omega⟩ : Fin 4096)
          (⟨(headOf t h).val * 64 + d.val, by omega⟩ : Fin 512)) := by
  refine (keys_read _ j _ _).trans ((k_at m c t _ _ _).trans ?_)
  refine congrArg₂ (fun a b => K m c (ix3 (bat t) a b)) (Fin.ext (row_lt j r b x hb)) (Fin.ext ?_)
  show t.val / 4 * 128 + (h.val * 64 + d.val) = (t.val / 4 * 2 + h.val) * 64 + d.val; omega

/-- A value of the eight rows, in the reference's coordinates. -/
theorem v_read (t : Fin cfg0.N) (j : Fin 16) (r : Fin 256) (h : Fin 2) (d : Fin 64) (b : Fin 12) (x : Fin 64)
    (hb : off (pat j) (r.val / 64) ≤ b.val ∧ b.val < off (pat j) (r.val / 64) + 8) :
    keys (inp m c t).v j (ix3 (0 : Fin 1) (⟨b.val * 64 + x.val, by omega⟩ : Fin 768) (lane h d))
      = W m c (ix3 (bat t) (⟨(rowStart (rowF j r).val + (⟨b.val - off (pat j) (r.val / 64), by omega⟩ : Fin 8).val) * 64 + x.val, by unfold rowStart; omega⟩ : Fin 4096)
          (⟨(headOf t h).val * 64 + d.val, by omega⟩ : Fin 512)) := by
  refine (keys_read _ j _ _).trans ((v_at m c t _ _ _).trans ?_)
  refine congrArg₂ (fun a b => W m c (ix3 (bat t) a b)) (Fin.ext (row_lt j r b x hb)) (Fin.ext ?_)
  show t.val / 4 * 128 + (h.val * 64 + d.val) = (t.val / 4 * 2 + h.val) * 64 + d.val; omega

/-- A window of the whole array is the array. -/
theorem whole_window (x : Vec Ideal S1x256x128 .bf16) (hi) (n : Fin 256) (l : Fin 128) :
    window x ![0, 0, 0] S1x256x128.size hi (ix3 (0 : Fin 1) n l) = x (ix3 (0 : Fin 1) n l) := by
  refine congrArg x (funext fun a => Fin.ext ?_)
  fin_cases a
  · rfl
  · show 0 + 1 * n.val = n.val; omega
  · show 0 + 1 * l.val = l.val; omega

/-- The context keys without their leading axis. -/
theorem flat_kc (x : Vec Ideal S1x256x128 .bf16) (n : Fin 256) (l : Fin 128) : k0_pay80 x (ix2 n l) = x (ix3 (0 : Fin 1) n l) := by
  unfold k0_pay80
  pointwise
/-- The context values without their leading axis. -/
theorem flat_vc (x : Vec Ideal S1x256x128 .bf16) (n : Fin 256) (l : Fin 128) : k0_pay81 x (ix2 n l) = x (ix3 (0 : Fin 1) n l) := by
  unfold k0_pay81
  pointwise

/-- A context key, in the reference's coordinates. -/
theorem kc_read (t : Fin cfg0.N) (n : Fin 256) (h : Fin 2) (d : Fin 64) :
    (inp m c t).kc (ix2 n (lane h d)) = KC m c (ix3 (bat t) n (⟨(headOf t h).val * 64 + d.val, by omega⟩ : Fin 512)) := by
  refine (flat_kc _ n _).trans ((whole_window _ _ n _).trans ((kc_at m c t _ _ _).trans ?_))
  refine congrArg (fun b => KC m c (ix3 (bat t) n b)) (Fin.ext ?_)
  show t.val / 4 * 128 + (h.val * 64 + d.val) = (t.val / 4 * 2 + h.val) * 64 + d.val; omega

/-- A context value, in the reference's coordinates. -/
theorem vc_read (t : Fin cfg0.N) (n : Fin 256) (h : Fin 2) (d : Fin 64) :
    (inp m c t).vc (ix2 n (lane h d)) = WC m c (ix3 (bat t) n (⟨(headOf t h).val * 64 + d.val, by omega⟩ : Fin 512)) := by
  refine (flat_vc _ n _).trans ((whole_window _ _ n _).trans ((vc_at m c t _ _ _).trans ?_))
  refine congrArg (fun b => WC m c (ix3 (bat t) n b)) (Fin.ext ?_)
  show t.val / 4 * 128 + (h.val * 64 + d.val) = (t.val / 4 * 2 + h.val) * 64 + d.val; omega

/-- The reference's scores of block `j`'s token `r` and head `h` at point `t`. -/
abbrev scoreAt (t : Fin cfg0.N) (j : Fin 16) (r : Fin 256) (h : Fin 2) : Fin 768 → EReal :=
  score (Q m c) (K m c) (KC m c) (RPB m c) (bat t) (headOf t h) (rowF j r) (colF r)

/-- The kernel's window scores are the reference's in the eight rows, and minus infinity outside. -/
theorem winScore_eq (t : Fin cfg0.N) (j : Fin 16) (r : Fin 256) (h : Fin 2) (b : Fin 12) (x : Fin 64) :
    winScore (inp m c t) j h (ix4 (0 : Fin 1) (0 : Fin 1) r (⟨b.val * 64 + x.val, by omega⟩ : Fin 768))
      = if hb : off (pat j) (r.val / 64) ≤ b.val ∧ b.val < off (pat j) (r.val / 64) + 8 then
          scoreAt m c t j r h ⟨(b.val - off (pat j) (r.val / 64)) * 64 + x.val, by omega⟩ else (⊥ : EReal) := by
  rw [winScore_at _ (plain m c t)]
  by_cases hb : off (pat j) (r.val / 64) ≤ b.val ∧ b.val < off (pat j) (r.val / 64) + 8
  · rw [dif_pos hb]
    refine Eq.trans ?_ (score_win (Q m c) (K m c) (KC m c) (RPB m c) (bat t) (headOf t h) (rowF j r) (colF r)
      ⟨b.val - off (pat j) (r.val / 64), by omega⟩ x).symm
    have e := bias_in m c t j h r b x hb (⟨rowStart (imgRow j r) + (b.val - off (pat j) (r.val / 64)) + 7 - imgRow j r, by unfold rowStart imgRow; omega⟩ : Fin 15) rfl
    rw [show biasOf (inp m c t).bias j h = biasOf (tables m c t) j h from rfl, e]
    by_cases hc : colOk (r.val % 64) x.val
    · rw [if_pos hc, if_pos hc]
      refine congrArg (fun y : EReal => y + _) ?_
      refine Eq.trans ?_ (scaled _ _)
      exact Finset.sum_congr rfl fun d _ => by rw [q_read, k_read m c t j r h d b x hb]
    · rw [if_neg hc, if_neg hc]
      exact EReal.add_bot _
  · rw [dif_neg hb]
    refine (congrArg (fun y : EReal => _ + y) (bias_out m c t j h r b x hb)).trans (EReal.add_bot _)

/-- The kernel's context score is the reference's. -/
theorem ctxScore_eq (t : Fin cfg0.N) (j : Fin 16) (r : Fin 256) (h : Fin 2) (n : Fin 256) :
    ctxScore (inp m c t) j h (ix4 (0 : Fin 1) (0 : Fin 1) r n) = scoreAt m c t j r h ⟨512 + n.val, by omega⟩ := by
  rw [ctxScore_at _ (plain m c t)]
  refine Eq.trans ?_ (score_ctx (Q m c) (K m c) (KC m c) (RPB m c) (bat t) (headOf t h) (rowF j r) (colF r) n).symm
  refine Eq.trans ?_ (scaled _ _)
  exact Finset.sum_congr rfl fun d _ => by rw [q_read, kc_read]

/-- The finiteness of the arrays the scores are made of. -/
structure Fin4 : Prop where
  q : ∀ i, ∃ y : ℝ, Q m c i = (y : EReal)
  k : ∀ i, ∃ y : ℝ, K m c i = (y : EReal)
  kc : ∀ i, ∃ y : ℝ, KC m c i = (y : EReal)
  rpb : ∀ i, ∃ y : ℝ, RPB m c i = (y : EReal)

/-- One entry of a block is the reference's. -/
theorem out_eq (H : Fin4 m c) (t : Fin cfg0.N) (j : Fin 16) (r : Fin 256) (h : Fin 2) (d : Fin 64) :
    outOf (inp m c t) j (ix3 (0 : Fin 1) r (lane h d))
      = whole (Q m c) (K m c) (W m c) (KC m c) (WC m c) (RPB m c)
          (ix3 (bat t) (⟨(rowF j r).val * 64 + (colF r).val, by omega⟩ : Fin 4096) (⟨(headOf t h).val * 64 + d.val, by omega⟩ : Fin 512)) := by
  rw [out_at _ (plain m c t)]
  simp only [winExp_at, ctxExp_at]
  unfold rowMax
  rw [negInf_word]
  refine Eq.trans ?_ (whole_at (Q m c) (K m c) (W m c) (KC m c) (WC m c) (RPB m c) (bat t) (headOf t h) (rowF j r) (colF r) d).symm
  have e := row_eq (off (pat j) (r.val / 64)) (off_le j r) (scoreAt m c t j r h)
    (fun n => winScore (inp m c t) j h (ix4 (0 : Fin 1) (0 : Fin 1) r n))
    (fun n => keys (inp m c t).v j (ix3 (0 : Fin 1) n (lane h d)))
    (fun n => ctxScore (inp m c t) j h (ix4 (0 : Fin 1) (0 : Fin 1) r n))
    (fun n => (inp m c t).vc (ix2 n (lane h d)))
    (fun κ x => W m c (ix3 (bat t) (⟨(rowStart (rowF j r).val + κ.val) * 64 + x.val, by unfold rowStart; omega⟩ : Fin 4096)
      (⟨(headOf t h).val * 64 + d.val, by omega⟩ : Fin 512)))
    (fun b x => winScore_eq m c t j r h b x) (fun n => ctxScore_eq m c t j r h n)
    (fun b x hb => v_read m c t j r h d b x hb)
    (by
      obtain ⟨y, hy⟩ := real_dot (fun d => Q m c (ix3 (bat t) (⟨(rowF j r).val * 64 + (colF r).val, by omega⟩ : Fin 4096) (⟨(headOf t h).val * 64 + d.val, by omega⟩ : Fin 512)))
        (fun d => KC m c (ix3 (bat t) (0 : Fin 256) (⟨(headOf t h).val * 64 + d.val, by omega⟩ : Fin 512))) (fun d => H.q _) (fun d => H.kc _)
      exact ⟨y, (ctxScore_eq m c t j r h 0).trans ((score_ctx (Q m c) (K m c) (KC m c) (RPB m c) (bat t) (headOf t h) (rowF j r) (colF r) 0).trans hy)⟩)
    (score_fin _ _ _ _ H.q H.k H.kc H.rpb (bat t) (headOf t h) (rowF j r) (colF r))
  refine e.trans ?_
  refine congrArg (fun y : EReal => _ + y) (Finset.sum_congr rfl fun n _ => ?_)
  exact congrArg (fun y : EReal => _ * y) (vc_read m c t n h d)

/-- The result array after the run is the reference's. -/
theorem result_eq (H : Fin4 m c) :
    (dats m 0 c).arrAt 7 cfg0.N = whole (Q m c) (K m c) (W m c) (KC m c) (WC m c) (RPB m c) := by
  refine (dats m 0 c).arrAt_eq_of_covers 7 _ (by decide +kernel) fun t hf y => ?_
  blk_simp
  rw [after_7]
  obtain ⟨z, n, l, rfl⟩ : ∃ (z : Fin 1) (n : Fin 4096) (l : Fin 128), y = ix3 z n l := ⟨y 0, y 1, y 2, eq_ix3 y⟩
  have hz := z.isLt
  have el : l = lane ⟨l.val / 64, by omega⟩ ⟨l.val % 64, by omega⟩ := Fin.ext (by show l.val = l.val / 64 * 64 + l.val % 64; omega)
  refine Eq.trans (b := outOf (inp m c t) (⟨n.val / 256, by omega⟩ : Fin 16) (ix3 (0 : Fin 1) (⟨n.val % 256, by omega⟩ : Fin 256) (lane ⟨l.val / 64, by omega⟩ ⟨l.val % 64, by omega⟩))) ?_ ?_
  · exact congrArg (fun l => outOf (inp m c t) (⟨n.val / 256, by omega⟩ : Fin 16) (ix3 (0 : Fin 1) (⟨n.val % 256, by omega⟩ : Fin 256) l)) el
  · refine (out_eq m c H t _ _ _ _).trans (congrArg _ ?_)
    refine funext fun a => Fin.ext ?_
    fin_cases a
    · blk_simp [idx t]
      show t.val % 4 = _
      omega
    · blk_simp [idx t]
      show (4 * (n.val / 256) + n.val % 256 / 64) * 64 + n.val % 256 % 64 = n.val
      omega
    · blk_simp [idx t]
      show (t.val / 4 * 2 + l.val / 64) * 64 + l.val % 64 = t.val / 4 * 128 + l.val
      omega

end Cert.Na

end
end
-- ==== Proof.NaFinite.lean ====
/- The precondition of the neighbourhood attention's claim, entry by entry: the queries, the keys, the context keys and the
   relative biases are finite. -/
module

public import proofs.«01_k».proof.Pre_finite_scores
public import Idealize.ShloMosaic.Lib.ReduceAll
public import Idealize.ShloMosaic.Lib.IdealHost
public import Idealize.ShloMosaic.Lib.Pointwise

@[expose] public section

set_option maxRecDepth 16384
set_option maxHeartbeats 1000000

noncomputable section

namespace Cert.Na

open Idealize.ShloMosaic Idealize.ShloMosaic.TcCoe Idealize.ShloMosaic.Tactic
open Idealize.SL.Sem
open Cert.Pre_finite_scores Cert.Pre_finite_scores.Facts

/-- A number whose absolute value is below plus infinity is real. -/
theorem real_of_abs (x : EReal) (h : Ideal.cmp .olt (max x (-x)) (Ideal.ofBits .f32 0x7F800000#32) = 1#1) : ∃ y : ℝ, x = (y : EReal) := by
  have e : Ideal.ofBits .f32 0x7F800000#32 = (⊤ : EReal) := by simp [Ideal.ofBits, Ideal.ieee]
  rw [e] at h
  have hlt : max x (-x) < ⊤ := by
    by_contra hn
    have : Ideal.cmp .olt (max x (-x)) ⊤ = 0#1 := by
      unfold Ideal.cmp
      simp [hn]
    rw [this] at h
    exact absurd h (by decide)
  induction x with
  | bot => simp at hlt
  | top => simp at hlt
  | coe y => exact ⟨y, rfl⟩

/-- A scalar's only index. -/
instance : Subsingleton S_.Idx := ⟨fun a b => funext fun i => i.elim0⟩

variable [Cert.Pre_finite_scores.Facts]

/-- What the precondition says of each array. -/
theorem finite_of_pre (q k v : FVec Ideal S4x4096x512 .bf16) (kc vc : FVec Ideal S4x256x512 .bf16) (rpb : FVec Ideal S1x8x15x31 .f32)
    (h : fn (F := Ideal) q k v kc vc rpb = fun _ => 1#1) :
    (∀ i, ∃ y : ℝ, q i = (y : EReal)) ∧ (∀ i, ∃ y : ℝ, k i = (y : EReal)) ∧ (∀ i, ∃ y : ℝ, kc i = (y : EReal))
      ∧ ∀ i, ∃ y : ℝ, rpb i = (y : EReal) := by
  have h0 := congrFun h ix0
  unfold fn fn_part1 at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs _ (Host.reduce_andi_all _ _ _ _ _ h0' i), fun i => real_of_abs _ (Host.reduce_andi_all _ _ _ _ _ h1 i),
    fun i => real_of_abs _ (Host.reduce_andi_all _ _ _ _ _ h2 i), fun i => real_of_abs _ (Host.reduce_andi_all _ _ _ _ _ h3 i)⟩

end Cert.Na

end
end
-- ==== Proof.NaClaims.lean ====
/- The claims about the neighbourhood attention. -/
module

public import proofs.«01_k».proof.Defs
public import proofs.«01_k».proof.Proof.NaValue
public import proofs.«01_k».proof.Proof.NaFinite
public import proofs.«01_k».proof.Proof.NaFrame
public import proofs.«01_k».proof.Proof.Gen.Kernel.Frame
public import proofs.«01_k».proof.Proof.Gen.ReferenceIdeal.Run

@[expose] public section

set_option maxRecDepth 16384
set_option maxHeartbeats 1000000

noncomputable section

namespace Cert.Na

open Idealize.ShloMosaic Idealize.ShloMosaic.TcCoe Idealize.SL.Sem

/-- The side conditions of the precondition's function. -/
instance preFacts : Cert.Pre_finite_scores.Facts where
  bitsLt_bf16_f32 := by decide
  bcast_S_S4x4096x512 := by decide
  reducesTo_S4x4096x512_S_d0_1_2 := by decide
  h_S_ := by decide
  bcast_S_S4x256x512 := by decide
  reducesTo_S4x256x512_S_d0_1_2 := by decide
  bcast_S_S1x8x15x31 := by decide
  reducesTo_S1x8x15x31_S_d0_1_2_3 := by decide

/-- Every run ends with the arguments as they began: one run serves both programs, which have the same text. -/
theorem frame_ideal : Cert.quiescent_KernelIdeal := fun m ρ _ => frame_run (F := Ideal) m ρ

/-- The two printed programs have one text, so their body tables are the same table: compared at
    its only label, whose two bodies are the same term. -/
theorem bodies_same : (show Defs Cert.KernelIdeal.nD Cert.KernelIdeal.τ Cert.KernelIdeal.sig (Elt Bits) Cert.KernelIdeal.Λ₀
      from Cert.Kernel.defs₀ (F := Bits)) = Cert.KernelIdeal.defs₀ (F := Bits) := by
  show Defs.onTc _ = Defs.onTc _
  congr 1
  funext l x
  match l, x with
  | 0, (t, s) => rfl

/-- The same run, read at the chip's words, is the kernel's own frame. -/
theorem frame_kernel : Cert.quiescent_Kernel := fun m ρ _ => by
  have h := frame_run (F := Bits) m ρ
  have e : Pipeline.defs (Cert.KernelIdeal.pcfgs (F := Bits)) (Cert.Kernel.defs₀ (F := Bits))
      = Cert.KernelIdeal.defs (F := Bits) := congrArg (Pipeline.defs (Cert.KernelIdeal.pcfgs (F := Bits))) bodies_same
  rw [← e] at h
  exact h

/-- The reference's run leaves its arguments and semaphores as they were. -/
theorem frame_reference : Cert.quiescent_ReferenceIdeal := fun m ρ _ =>
  (θ_run _ _ _).mono (fun r h => ⟨fun c => (h c).2, sem_eq_zero_of_no_sems (by decide) r.2⟩) (Cert.ReferenceIdeal.Value.run m ρ)

/-- Under finite queries, keys, context keys and relative biases the two programs end with equal results: the kernel divides
    each row once, after summing over its masked twelve image rows, and the reference divides every weight over its eight. -/
theorem algebraic : Cert.algebraic_KernelIdeal_ReferenceIdeal_pre_finite_scores := by
  intro m g m' g' hpre hag
  refine ⟨fun c => Cert.NaRef.whole (Q m c) (K m c) (W m c) (KC m c) (WC m c) (RPB m c), ?_, ?_⟩
  · refine (θ_run _ _ _).mono (fun r h c => ⟨?_, h.2.1 c⟩) (θ_run_and (run_main (F := Ideal) m g) (frame_run (F := Ideal) m g))
    obtain ⟨hq, hk, hkc, hr⟩ := finite_of_pre _ _ _ _ _ _ (hpre c)
    exact ((h.1.1 c).1 7).trans (result_eq m c ⟨hq, hk, hkc, hr⟩)
  · refine (θ_run _ _ _).mono (fun _ h c => ⟨(h c).1.trans ?_, (h c).2⟩) (Cert.ReferenceIdeal.Value.run m' g')
    obtain ⟨e0, e1, e2, e3, e4, e5⟩ := hag c
    refine (Cert.NaRef.res_eq m' c).trans ?_
    rw [e0, e1, e2, e3, e4, e5]

end Cert.Na

end
end
-- ==== Proof.lean ====
module

public import proofs.«01_k».proof.Defs
public import proofs.«01_k».proof.Proof.FfnClaims
public import proofs.«01_k».proof.Proof.NaClaims
public import proofs.«01_k».proof.Proof.Gen.ReferenceIdeal.Run
public import proofs.«01_k».proof.Proof.Gen.Kernel.Frame
public import proofs.«01_k».proof.Proof.Gen.Kernel.Loops
public import proofs.«01_k».proof.Proof.Gen.KernelIdeal.Frame
public import proofs.«01_k».proof.Proof.Gen.KernelIdeal.Loops
public import Idealize.ShloMosaic.Adequacy
public import Idealize.ShloMosaic.Init

@[expose] public section

noncomputable section

namespace Cert.Proof

open Idealize.ShloMosaic Idealize.SL.Sem

/-- Every claim of the directory. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Na.preFacts,
  Cert.Na.frame_kernel, Cert.Na.frame_ideal, fun m ρ _ => Cert.Na.frame_ideal m ρ trivial,
  Cert.Na.frame_reference, fun m ρ _ => Cert.Na.frame_reference m ρ trivial,
  fun m ρ _ => Cert.Kernel2.Gen.frame m ρ, fun m ρ _ => Cert.Kernel2Ideal.Gen.frame m ρ,
  fun m ρ _ => (θ_run _ _ _).mono (fun r h => ⟨fun c => (h c).2, sem_eq_zero_of_no_sems (by decide) r.2⟩)
    (Cert.Reference2Ideal.Value.run m ρ),
  fun m ρ _ => Cert.Kernel3.Gen.frame m ρ, fun m ρ _ => Cert.Kernel3Ideal.Gen.frame m ρ,
  fun m ρ _ => (θ_run _ _ _).mono (fun r h => ⟨fun c => (h c).2, sem_eq_zero_of_no_sems (by decide) r.2⟩)
    (Cert.Reference3Ideal.Value.run m ρ),
  trivial, Cert.Na.algebraic, trivial, Cert.Ffn.algebraic_twelve, trivial, Cert.Ffn.algebraic_four⟩

end Cert.Proof

end
